-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![32768, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .bf16) (main_arg1 : FVec F S512x64 .bf16) (main_arg2 : IVec S2048x1 32) (main_arg3 : FVec F S4x512x1024 .bf16) (main_arg4 : FVec F S512x1024 .bf16) : IVec S2048x512 1 × IVec S512x64 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S512x64 .f32 := (extf .f32 · bitsLt_bf16_f32) main_arg1
  let main_v5 : FVec F S512x64 .f32 := Host.absf main_v4
  let main_cst_0 : FVec F S_ .f32 := constant S_ .f32 0x7F800000#32
  let main_v6 : FVec F S512x64 .f32 := broadcastInDim S512x64 ![] bcast_S_S512x64 main_cst_0
  let main_v7 : IVec S512x64 1 := cmpf .olt main_v5 main_v6
  (main_v3, main_v7)
-- ==== Pre_finite_ReferenceIdeal.lean ====
abbrev S32768x512 : Shape := ⟨2, ![32768, 512]⟩
abbrev S512x64 : Shape := ⟨2, ![512, 64]⟩
abbrev S32768x1 : Shape := ⟨2, ![32768, 1]⟩
abbrev S64x512x1024 : Shape := ⟨3, ![64, 512, 1024]⟩
abbrev S512x1024 : Shape := ⟨2, ![512, 1024]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  bcast_S_S512x64 : S_.BroadcastsInDim S512x64 (![] : Fin 0 → Fin S512x64.rank)

variable [Facts]

def fn {F : FTy → Type} [FloatOps F] (main_arg0 : FVec F S32768x512 .bf16) (main_arg1 : FVec F S512x64 .bf16) (main_arg2 : IVec S32768x1 32) (main_arg3 : FVec F S64x512x1024 .bf16) (main_arg4 : FVec F S512x1024 .bf16) : IVec S32768x512 1 × IVec S512x64 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S512x64 .f32 := (extf .f32 · bitsLt_bf16_f32) main_arg1
  let main_v5 : FVec F S512x64 .f32 := Host.absf main_v4
  let main_cst_0 : FVec F S_ .f32 := constant S_ .f32 0x7F800000#32
  let main_v6 : FVec F S512x64 .f32 := broadcastInDim S512x64 ![] bcast_S_S512x64 main_cst_0
  let main_v7 : IVec S512x64 1 := cmpf .olt main_v5 main_v6
  (main_v3, main_v7)
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2x4x512x1024 : Shape := ⟨4, ![2, 4, 512, 1024]⟩
abbrev S2 : Shape := ⟨1, ![2]⟩
abbrev S_ : Shape := ⟨0, ![]⟩
abbrev S1x512x1024 : Shape := ⟨3, ![1, 512, 1024]⟩
abbrev S1x1x512x1024 : Shape := ⟨4, ![1, 1, 512, 1024]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S1x4x512x1024 : Shape := ⟨4, ![1, 4, 512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x64, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S2048x1024, .f32⟩
  | .local _ .vmem, ⟨6, _⟩ => ⟨S2048x512, .bf16⟩
  | .local _ .vmem, ⟨7, _⟩ => ⟨S512x1024, .bf16⟩
  | .local _ .vmem, ⟨8, _⟩ => ⟨S2x4x512x1024, .bf16⟩
  | .local _ .vmem, ⟨9, _⟩ => ⟨S2x4x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_54 : BitVec 32 := 0#32
  let c8_i32 : BitVec 32 := 8#32
  let v50 : BitVec 32 := Scalar.addi c0_i32_54 c8_i32
  let c1_i32_55 : BitVec 32 := 1#32
  ⟨c0_i32_54, v50, c1_i32_55⟩
def k0_off1 (k0_t1 : Fin k0_t1_loop.trips) : Fin 2 → Nat :=
  let c0_i32_54 : BitVec 32 := 0#32
  let c1_i32_55 : BitVec 32 := 1#32
  let arg16 : BitVec 32 := Scf.iv c0_i32_54 c1_i32_55 k0_t1
  let c256_i32 : BitVec 32 := 256#32
  let v491 : BitVec 32 := Scalar.muli arg16 c256_i32
  let v492 : Index := Scalar.indexCast v491
  let c0_744 : Index := 0#32
  ![v492.toNat, 0]
def k0_off2 (k0_t1 : Fin k0_t1_loop.trips) : Fin 2 → Nat :=
  let c0_i32_54 : BitVec 32 := 0#32
  let c1_i32_55 : BitVec 32 := 1#32
  let arg16 : BitVec 32 := Scf.iv c0_i32_54 c1_i32_55 k0_t1
  let c256_i32 : BitVec 32 := 256#32
  let v491 : BitVec 32 := Scalar.muli arg16 c256_i32
  let v507 : Index := Scalar.indexCast v491
  let c0_749 : Index := 0#32
  ![v507.toNat, 0]
def k0_off3 (k0_t1 : Fin k0_t1_loop.trips) : Fin 2 → Nat :=
  let c0_i32_54 : BitVec 32 := 0#32
  let c1_i32_55 : BitVec 32 := 1#32
  let arg16 : BitVec 32 := Scf.iv c0_i32_54 c1_i32_55 k0_t1
  let c256_i32 : BitVec 32 := 256#32
  let v491 : BitVec 32 := Scalar.muli arg16 c256_i32
  let v527 : Index := Scalar.indexCast v491
  let c0_756 : Index := 0#32
  ![v527.toNat, 0]
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_61 : BitVec 32 := 1#32
  let v51 : BitVec 32 := Scalar.muli v7 c1_i32_61
  let v52 : BitVec 32 := Scalar.addi c0_i32_62 v51
  v52.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_73 : BitVec 32 := 1#32
  let v61 : BitVec 32 := Scalar.muli v5 c1_i32_73
  let v62 : BitVec 32 := Scalar.addi c0_i32_74 v61
  v62.toNat
@[reducible] def k0_t2_loop : Scf.Loop 32 :=
  let c0_i32_81 : BitVec 32 := 0#32
  let c8_i32_82 : BitVec 32 := 8#32
  let v71 : BitVec 32 := Scalar.addi c0_i32_81 c8_i32_82
  let c1_i32_83 : BitVec 32 := 1#32
  ⟨c0_i32_81, v71, c1_i32_83⟩
def k0_off4 (k0_t2 : Fin k0_t2_loop.trips) : Fin 2 → Nat :=
  let c0_i32_81 : BitVec 32 := 0#32
  let c1_i32_83 : BitVec 32 := 1#32
  let arg16 : BitVec 32 := Scf.iv c0_i32_81 c1_i32_83 k0_t2
  let c256_i32 : BitVec 32 := 256#32
  let v491 : BitVec 32 := Scalar.muli arg16 c256_i32
  let v492 : Index := Scalar.indexCast v491
  let c0_744 : Index := 0#32
  ![v492.toNat, 0]
def k0_off5 (k0_t2 : Fin k0_t2_loop.trips) : Fin 2 → Nat :=
  let c0_i32_81 : BitVec 32 := 0#32
  let c1_i32_83 : BitVec 32 := 1#32
  let arg16 : BitVec 32 := Scf.iv c0_i32_81 c1_i32_83 k0_t2
  let c256_i32 : BitVec 32 := 256#32
  let v491 : BitVec 32 := Scalar.muli arg16 c256_i32
  let v494 : Index := Scalar.indexCast v491
  let c0_745 : Index := 0#32
  ![v494.toNat, 0]
def k0_off6 (k0_t2 : Fin k0_t2_loop.trips) : Fin 2 → Nat :=
  let c0_i32_81 : BitVec 32 := 0#32
  let c1_i32_83 : BitVec 32 := 1#32
  let arg16 : BitVec 32 := Scf.iv c0_i32_81 c1_i32_83 k0_t2
  let c256_i32 : BitVec 32 := 256#32
  let v491 : BitVec 32 := Scalar.muli arg16 c256_i32
  let v497 : Index := Scalar.indexCast v491
  let c0_746 : Index := 0#32
  ![v497.toNat, 0]
def k0_dev5 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_132 : BitVec 32 := 1#32
  let v100 : BitVec 32 := Scalar.muli v5 c1_i32_132
  let v101 : BitVec 32 := Scalar.addi c0_i32_133 v100
  v101.toNat
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_135 : BitVec 32 := 1#32
  let v102 : BitVec 32 := Scalar.muli v7 c1_i32_135
  let v103 : BitVec 32 := Scalar.addi c0_i32_136 v102
  v103.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_143 : BitVec 32 := 1#32
  let v104 : BitVec 32 := Scalar.muli v7 c1_i32_143
  let v105 : BitVec 32 := Scalar.addi c0_i32_144 v104
  v105.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_157 : BitVec 32 := 1#32
  let v114 : BitVec 32 := Scalar.muli v5 c1_i32_157
  let v115 : BitVec 32 := Scalar.addi c0_i32_158 v114
  v115.toNat
@[reducible] def k0_t3_loop : Scf.Loop 32 :=
  let c0_i32_168 : BitVec 32 := 0#32
  let c8_i32_169 : BitVec 32 := 8#32
  let v127 : BitVec 32 := Scalar.addi c0_i32_168 c8_i32_169
  let c1_i32_170 : BitVec 32 := 1#32
  ⟨c0_i32_168, v127, c1_i32_170⟩
def k0_off7 (k0_t3 : Fin k0_t3_loop.trips) : Fin 2 → Nat :=
  let c0_i32_168 : BitVec 32 := 0#32
  let c1_i32_170 : BitVec 32 := 1#32
  let arg16 : BitVec 32 := Scf.iv c0_i32_168 c1_i32_170 k0_t3
  let c256_i32 : BitVec 32 := 256#32
  let v491 : BitVec 32 := Scalar.muli arg16 c256_i32
  let v492 : Index := Scalar.indexCast v491
  let c0_744 : Index := 0#32
  ![v492.toNat, 0]
def k0_off8 (k0_t3 : Fin k0_t3_loop.trips) : Fin 2 → Nat :=
  let c0_i32_168 : BitVec 32 := 0#32
  let c1_i32_170 : BitVec 32 := 1#32
  let arg16 : BitVec 32 := Scf.iv c0_i32_168 c1_i32_170 k0_t3
  let c256_i32 : BitVec 32 := 256#32
  let v491 : BitVec 32 := Scalar.muli arg16 c256_i32
  let v494 : Index := Scalar.indexCast v491
  let c0_745 : Index := 0#32
  ![v494.toNat, 0]
def k0_off9 (k0_t3 : Fin k0_t3_loop.trips) : Fin 2 → Nat :=
  let c0_i32_168 : BitVec 32 := 0#32
  let c1_i32_170 : BitVec 32 := 1#32
  let arg16 : BitVec 32 := Scf.iv c0_i32_168 c1_i32_170 k0_t3
  let c256_i32 : BitVec 32 := 256#32
  let v491 : BitVec 32 := Scalar.muli arg16 c256_i32
  let v497 : Index := Scalar.indexCast v491
  let c0_746 : Index := 0#32
  ![v497.toNat, 0]
@[reducible] def k0_t4_loop : Scf.Loop 32 :=
  let c0_i32_174 : BitVec 32 := 0#32
  let c8_i32_175 : BitVec 32 := 8#32
  let v130 : BitVec 32 := Scalar.addi c0_i32_174 c8_i32_175
  let c1_i32_176 : BitVec 32 := 1#32
  ⟨c0_i32_174, v130, c1_i32_176⟩
def k0_off10 (k0_t4 : Fin k0_t4_loop.trips) : Fin 2 → Nat :=
  let c0_i32_174 : BitVec 32 := 0#32
  let c1_i32_176 : BitVec 32 := 1#32
  let arg16 : BitVec 32 := Scf.iv c0_i32_174 c1_i32_176 k0_t4
  let c256_i32 : BitVec 32 := 256#32
  let v491 : BitVec 32 := Scalar.muli arg16 c256_i32
  let v492 : Index := Scalar.indexCast v491
  let c0_744 : Index := 0#32
  ![v492.toNat, 0]
def k0_off11 (k0_t4 : Fin k0_t4_loop.trips) : Fin 2 → Nat :=
  let c0_i32_174 : BitVec 32 := 0#32
  let c1_i32_176 : BitVec 32 := 1#32
  let arg16 : BitVec 32 := Scf.iv c0_i32_174 c1_i32_176 k0_t4
  let c256_i32 : BitVec 32 := 256#32
  let v491 : BitVec 32 := Scalar.muli arg16 c256_i32
  let v494 : Index := Scalar.indexCast v491
  let c0_745 : Index := 0#32
  ![v494.toNat, 0]
def k0_off12 (k0_t4 : Fin k0_t4_loop.trips) : Fin 2 → Nat :=
  let c0_i32_174 : BitVec 32 := 0#32
  let c1_i32_176 : BitVec 32 := 1#32
  let arg16 : BitVec 32 := Scf.iv c0_i32_174 c1_i32_176 k0_t4
  let c256_i32 : BitVec 32 := 256#32
  let v491 : BitVec 32 := Scalar.muli arg16 c256_i32
  let v497 : Index := Scalar.indexCast v491
  let c0_746 : Index := 0#32
  ![v497.toNat, 0]
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_225 : BitVec 32 := 1#32
  let v159 : BitVec 32 := Scalar.muli v5 c1_i32_225
  let v160 : BitVec 32 := Scalar.addi c0_i32_226 v159
  v160.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_228 : BitVec 32 := 1#32
  let v161 : BitVec 32 := Scalar.muli v7 c1_i32_228
  let v162 : BitVec 32 := Scalar.addi c0_i32_229 v161
  v162.toNat
def k0_dev11 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_236 : BitVec 32 := 1#32
  let v163 : BitVec 32 := Scalar.muli v7 c1_i32_236
  let v164 : BitVec 32 := Scalar.addi c0_i32_237 v163
  v164.toNat
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_250 : BitVec 32 := 1#32
  let v173 : BitVec 32 := Scalar.muli v5 c1_i32_250
  let v174 : BitVec 32 := Scalar.addi c0_i32_251 v173
  v174.toNat
@[reducible] def k0_t5_loop : Scf.Loop 32 :=
  let c0_i32_261 : BitVec 32 := 0#32
  let c8_i32_262 : BitVec 32 := 8#32
  let v186 : BitVec 32 := Scalar.addi c0_i32_261 c8_i32_262
  let c1_i32_263 : BitVec 32 := 1#32
  ⟨c0_i32_261, v186, c1_i32_263⟩
def k0_off13 (k0_t5 : Fin k0_t5_loop.trips) : Fin 2 → Nat :=
  let c0_i32_261 : BitVec 32 := 0#32
  let c1_i32_263 : BitVec 32 := 1#32
  let arg16 : BitVec 32 := Scf.iv c0_i32_261 c1_i32_263 k0_t5
  let c256_i32 : BitVec 32 := 256#32
  let v491 : BitVec 32 := Scalar.muli arg16 c256_i32
  let v492 : Index := Scalar.indexCast v491
  let c0_744 : Index := 0#32
  ![v492.toNat, 0]
def k0_off14 (k0_t5 : Fin k0_t5_loop.trips) : Fin 2 → Nat :=
  let c0_i32_261 : BitVec 32 := 0#32
  let c1_i32_263 : BitVec 32 := 1#32
  let arg16 : BitVec 32 := Scf.iv c0_i32_261 c1_i32_263 k0_t5
  let c256_i32 : BitVec 32 := 256#32
  let v491 : BitVec 32 := Scalar.muli arg16 c256_i32
  let v494 : Index := Scalar.indexCast v491
  let c0_745 : Index := 0#32
  ![v494.toNat, 0]
def k0_off15 (k0_t5 : Fin k0_t5_loop.trips) : Fin 2 → Nat :=
  let c0_i32_261 : BitVec 32 := 0#32
  let c1_i32_263 : BitVec 32 := 1#32
  let arg16 : BitVec 32 := Scf.iv c0_i32_261 c1_i32_263 k0_t5
  let c256_i32 : BitVec 32 := 256#32
  let v491 : BitVec 32 := Scalar.muli arg16 c256_i32
  let v497 : Index := Scalar.indexCast v491
  let c0_746 : Index := 0#32
  ![v497.toNat, 0]
@[reducible] def k0_t6_loop : Scf.Loop 32 :=
  let c0_i32_267 : BitVec 32 := 0#32
  let c8_i32_268 : BitVec 32 := 8#32
  let v189 : BitVec 32 := Scalar.addi c0_i32_267 c8_i32_268
  let c1_i32_269 : BitVec 32 := 1#32
  ⟨c0_i32_267, v189, c1_i32_269⟩
def k0_off16 (k0_t6 : Fin k0_t6_loop.trips) : Fin 2 → Nat :=
  let c0_i32_267 : BitVec 32 := 0#32
  let c1_i32_269 : BitVec 32 := 1#32
  let arg16 : BitVec 32 := Scf.iv c0_i32_267 c1_i32_269 k0_t6
  let c256_i32 : BitVec 32 := 256#32
  let v491 : BitVec 32 := Scalar.muli arg16 c256_i32
  let v492 : Index := Scalar.indexCast v491
  let c0_744 : Index := 0#32
  ![v492.toNat, 0]
def k0_off17 (k0_t6 : Fin k0_t6_loop.trips) : Fin 2 → Nat :=
  let c0_i32_267 : BitVec 32 := 0#32
  let c1_i32_269 : BitVec 32 := 1#32
  let arg16 : BitVec 32 := Scf.iv c0_i32_267 c1_i32_269 k0_t6
  let c256_i32 : BitVec 32 := 256#32
  let v491 : BitVec 32 := Scalar.muli arg16 c256_i32
  let v494 : Index := Scalar.indexCast v491
  let c0_745 : Index := 0#32
  ![v494.toNat, 0]
def k0_off18 (k0_t6 : Fin k0_t6_loop.trips) : Fin 2 → Nat :=
  let c0_i32_267 : BitVec 32 := 0#32
  let c1_i32_269 : BitVec 32 := 1#32
  let arg16 : BitVec 32 := Scf.iv c0_i32_267 c1_i32_269 k0_t6
  let c256_i32 : BitVec 32 := 256#32
  let v491 : BitVec 32 := Scalar.muli arg16 c256_i32
  let v497 : Index := Scalar.indexCast v491
  let c0_746 : Index := 0#32
  ![v497.toNat, 0]
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_318 : BitVec 32 := 1#32
  let v218 : BitVec 32 := Scalar.muli v5 c1_i32_318
  let v219 : BitVec 32 := Scalar.addi c0_i32_319 v218
  v219.toNat
def k0_dev14 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_321 : BitVec 32 := 1#32
  let v220 : BitVec 32 := Scalar.muli v7 c1_i32_321
  let v221 : BitVec 32 := Scalar.addi c0_i32_322 v220
  v221.toNat
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_329 : BitVec 32 := 1#32
  let v222 : BitVec 32 := Scalar.muli v7 c1_i32_329
  let v223 : BitVec 32 := Scalar.addi c0_i32_330 v222
  v223.toNat
def k0_dev16 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_343 : BitVec 32 := 1#32
  let v232 : BitVec 32 := Scalar.muli v5 c1_i32_343
  let v233 : BitVec 32 := Scalar.addi c0_i32_344 v232
  v233.toNat
@[reducible] def k0_t7_loop : Scf.Loop 32 :=
  let c0_i32_353 : BitVec 32 := 0#32
  let c8_i32_354 : BitVec 32 := 8#32
  let v245 : BitVec 32 := Scalar.addi c0_i32_353 c8_i32_354
  let c1_i32_355 : BitVec 32 := 1#32
  ⟨c0_i32_353, v245, c1_i32_355⟩
def k0_off19 (k0_t7 : Fin k0_t7_loop.trips) : Fin 2 → Nat :=
  let c0_i32_353 : BitVec 32 := 0#32
  let c1_i32_355 : BitVec 32 := 1#32
  let arg16 : BitVec 32 := Scf.iv c0_i32_353 c1_i32_355 k0_t7
  let c256_i32 : BitVec 32 := 256#32
  let v491 : BitVec 32 := Scalar.muli arg16 c256_i32
  let v492 : Index := Scalar.indexCast v491
  let c0_744 : Index := 0#32
  ![v492.toNat, 0]
def k0_off20 (k0_t7 : Fin k0_t7_loop.trips) : Fin 2 → Nat :=
  let c0_i32_353 : BitVec 32 := 0#32
  let c1_i32_355 : BitVec 32 := 1#32
  let arg16 : BitVec 32 := Scf.iv c0_i32_353 c1_i32_355 k0_t7
  let c256_i32 : BitVec 32 := 256#32
  let v491 : BitVec 32 := Scalar.muli arg16 c256_i32
  let v494 : Index := Scalar.indexCast v491
  let c0_745 : Index := 0#32
  ![v494.toNat, 0]
def k0_off21 (k0_t7 : Fin k0_t7_loop.trips) : Fin 2 → Nat :=
  let c0_i32_353 : BitVec 32 := 0#32
  let c1_i32_355 : BitVec 32 := 1#32
  let arg16 : BitVec 32 := Scf.iv c0_i32_353 c1_i32_355 k0_t7
  let c256_i32 : BitVec 32 := 256#32
  let v491 : BitVec 32 := Scalar.muli arg16 c256_i32
  let v497 : Index := Scalar.indexCast v491
  let c0_746 : Index := 0#32
  ![v497.toNat, 0]
@[reducible] def k0_t8_loop : Scf.Loop 32 :=
  let c0_i32_359 : BitVec 32 := 0#32
  let c8_i32_360 : BitVec 32 := 8#32
  let v248 : BitVec 32 := Scalar.addi c0_i32_359 c8_i32_360
  let c1_i32_361 : BitVec 32 := 1#32
  ⟨c0_i32_359, v248, c1_i32_361⟩
def k0_off22 (k0_t8 : Fin k0_t8_loop.trips) : Fin 2 → Nat :=
  let c0_i32_359 : BitVec 32 := 0#32
  let c1_i32_361 : BitVec 32 := 1#32
  let arg16 : BitVec 32 := Scf.iv c0_i32_359 c1_i32_361 k0_t8
  let c256_i32 : BitVec 32 := 256#32
  let v491 : BitVec 32 := Scalar.muli arg16 c256_i32
  let v492 : Index := Scalar.indexCast v491
  let c0_744 : Index := 0#32
  ![v492.toNat, 0]
def k0_off23 (k0_t8 : Fin k0_t8_loop.trips) : Fin 2 → Nat :=
  let c0_i32_359 : BitVec 32 := 0#32
  let c1_i32_361 : BitVec 32 := 1#32
  let arg16 : BitVec 32 := Scf.iv c0_i32_359 c1_i32_361 k0_t8
  let c256_i32 : BitVec 32 := 256#32
  let v491 : BitVec 32 := Scalar.muli arg16 c256_i32
  let v494 : Index := Scalar.indexCast v491
  let c0_745 : Index := 0#32
  ![v494.toNat, 0]
def k0_off24 (k0_t8 : Fin k0_t8_loop.trips) : Fin 2 → Nat :=
  let c0_i32_359 : BitVec 32 := 0#32
  let c1_i32_361 : BitVec 32 := 1#32
  let arg16 : BitVec 32 := Scf.iv c0_i32_359 c1_i32_361 k0_t8
  let c256_i32 : BitVec 32 := 256#32
  let v491 : BitVec 32 := Scalar.muli arg16 c256_i32
  let v497 : Index := Scalar.indexCast v491
  let c0_746 : Index := 0#32
  ![v497.toNat, 0]
def k0_dev17 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_410 : BitVec 32 := 1#32
  let v277 : BitVec 32 := Scalar.muli v5 c1_i32_410
  let v278 : BitVec 32 := Scalar.addi c0_i32_411 v277
  v278.toNat
def k0_dev18 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_413 : BitVec 32 := 1#32
  let v279 : BitVec 32 := Scalar.muli v7 c1_i32_413
  let v280 : BitVec 32 := Scalar.addi c0_i32_414 v279
  v280.toNat
def k0_dev19 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_421 : BitVec 32 := 1#32
  let v281 : BitVec 32 := Scalar.muli v7 c1_i32_421
  let v282 : BitVec 32 := Scalar.addi c0_i32_422 v281
  v282.toNat
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_435 : BitVec 32 := 1#32
  let v291 : BitVec 32 := Scalar.muli v5 c1_i32_435
  let v292 : BitVec 32 := Scalar.addi c0_i32_436 v291
  v292.toNat
@[reducible] def k0_t9_loop : Scf.Loop 32 :=
  let c0_i32_445 : BitVec 32 := 0#32
  let c8_i32_446 : BitVec 32 := 8#32
  let v304 : BitVec 32 := Scalar.addi c0_i32_445 c8_i32_446
  let c1_i32_447 : BitVec 32 := 1#32
  ⟨c0_i32_445, v304, c1_i32_447⟩
def k0_off25 (k0_t9 : Fin k0_t9_loop.trips) : Fin 2 → Nat :=
  let c0_i32_445 : BitVec 32 := 0#32
  let c1_i32_447 : BitVec 32 := 1#32
  let arg16 : BitVec 32 := Scf.iv c0_i32_445 c1_i32_447 k0_t9
  let c256_i32 : BitVec 32 := 256#32
  let v491 : BitVec 32 := Scalar.muli arg16 c256_i32
  let v492 : Index := Scalar.indexCast v491
  let c0_744 : Index := 0#32
  ![v492.toNat, 0]
def k0_off26 (k0_t9 : Fin k0_t9_loop.trips) : Fin 2 → Nat :=
  let c0_i32_445 : BitVec 32 := 0#32
  let c1_i32_447 : BitVec 32 := 1#32
  let arg16 : BitVec 32 := Scf.iv c0_i32_445 c1_i32_447 k0_t9
  let c256_i32 : BitVec 32 := 256#32
  let v491 : BitVec 32 := Scalar.muli arg16 c256_i32
  let v494 : Index := Scalar.indexCast v491
  let c0_745 : Index := 0#32
  ![v494.toNat, 0]
def k0_off27 (k0_t9 : Fin k0_t9_loop.trips) : Fin 2 → Nat :=
  let c0_i32_445 : BitVec 32 := 0#32
  let c1_i32_447 : BitVec 32 := 1#32
  let arg16 : BitVec 32 := Scf.iv c0_i32_445 c1_i32_447 k0_t9
  let c256_i32 : BitVec 32 := 256#32
  let v491 : BitVec 32 := Scalar.muli arg16 c256_i32
  let v497 : Index := Scalar.indexCast v491
  let c0_746 : Index := 0#32
  ![v497.toNat, 0]
@[reducible] def k0_t10_loop : Scf.Loop 32 :=
  let c0_i32_451 : BitVec 32 := 0#32
  let c8_i32_452 : BitVec 32 := 8#32
  let v307 : BitVec 32 := Scalar.addi c0_i32_451 c8_i32_452
  let c1_i32_453 : BitVec 32 := 1#32
  ⟨c0_i32_451, v307, c1_i32_453⟩
def k0_off28 (k0_t10 : Fin k0_t10_loop.trips) : Fin 2 → Nat :=
  let c0_i32_451 : BitVec 32 := 0#32
  let c1_i32_453 : BitVec 32 := 1#32
  let arg16 : BitVec 32 := Scf.iv c0_i32_451 c1_i32_453 k0_t10
  let c256_i32 : BitVec 32 := 256#32
  let v491 : BitVec 32 := Scalar.muli arg16 c256_i32
  let v492 : Index := Scalar.indexCast v491
  let c0_744 : Index := 0#32
  ![v492.toNat, 0]
def k0_off29 (k0_t10 : Fin k0_t10_loop.trips) : Fin 2 → Nat :=
  let c0_i32_451 : BitVec 32 := 0#32
  let c1_i32_453 : BitVec 32 := 1#32
  let arg16 : BitVec 32 := Scf.iv c0_i32_451 c1_i32_453 k0_t10
  let c256_i32 : BitVec 32 := 256#32
  let v491 : BitVec 32 := Scalar.muli arg16 c256_i32
  let v494 : Index := Scalar.indexCast v491
  let c0_745 : Index := 0#32
  ![v494.toNat, 0]
def k0_off30 (k0_t10 : Fin k0_t10_loop.trips) : Fin 2 → Nat :=
  let c0_i32_451 : BitVec 32 := 0#32
  let c1_i32_453 : BitVec 32 := 1#32
  let arg16 : BitVec 32 := Scf.iv c0_i32_451 c1_i32_453 k0_t10
  let c256_i32 : BitVec 32 := 256#32
  let v491 : BitVec 32 := Scalar.muli arg16 c256_i32
  let v497 : Index := Scalar.indexCast v491
  let c0_746 : Index := 0#32
  ![v497.toNat, 0]
def k0_dev21 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_502 : BitVec 32 := 1#32
  let v336 : BitVec 32 := Scalar.muli v5 c1_i32_502
  let v337 : BitVec 32 := Scalar.addi c0_i32_503 v336
  v337.toNat
def k0_dev22 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_505 : BitVec 32 := 1#32
  let v338 : BitVec 32 := Scalar.muli v7 c1_i32_505
  let v339 : BitVec 32 := Scalar.addi c0_i32_506 v338
  v339.toNat
def k0_dev23 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_513 : BitVec 32 := 1#32
  let v340 : BitVec 32 := Scalar.muli v7 c1_i32_513
  let v341 : BitVec 32 := Scalar.addi c0_i32_514 v340
  v341.toNat
def k0_dev24 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_527 : BitVec 32 := 1#32
  let v350 : BitVec 32 := Scalar.muli v5 c1_i32_527
  let v351 : BitVec 32 := Scalar.addi c0_i32_528 v350
  v351.toNat
@[reducible] def k0_t11_loop : Scf.Loop 32 :=
  let c0_i32_537 : BitVec 32 := 0#32
  let c8_i32_538 : BitVec 32 := 8#32
  let v363 : BitVec 32 := Scalar.addi c0_i32_537 c8_i32_538
  let c1_i32_539 : BitVec 32 := 1#32
  ⟨c0_i32_537, v363, c1_i32_539⟩
def k0_off31 (k0_t11 : Fin k0_t11_loop.trips) : Fin 2 → Nat :=
  let c0_i32_537 : BitVec 32 := 0#32
  let c1_i32_539 : BitVec 32 := 1#32
  let arg16 : BitVec 32 := Scf.iv c0_i32_537 c1_i32_539 k0_t11
  let c256_i32 : BitVec 32 := 256#32
  let v491 : BitVec 32 := Scalar.muli arg16 c256_i32
  let v492 : Index := Scalar.indexCast v491
  let c0_744 : Index := 0#32
  ![v492.toNat, 0]
def k0_off32 (k0_t11 : Fin k0_t11_loop.trips) : Fin 2 → Nat :=
  let c0_i32_537 : BitVec 32 := 0#32
  let c1_i32_539 : BitVec 32 := 1#32
  let arg16 : BitVec 32 := Scf.iv c0_i32_537 c1_i32_539 k0_t11
  let c256_i32 : BitVec 32 := 256#32
  let v491 : BitVec 32 := Scalar.muli arg16 c256_i32
  let v494 : Index := Scalar.indexCast v491
  let c0_745 : Index := 0#32
  ![v494.toNat, 0]
def k0_off33 (k0_t11 : Fin k0_t11_loop.trips) : Fin 2 → Nat :=
  let c0_i32_537 : BitVec 32 := 0#32
  let c1_i32_539 : BitVec 32 := 1#32
  let arg16 : BitVec 32 := Scf.iv c0_i32_537 c1_i32_539 k0_t11
  let c256_i32 : BitVec 32 := 256#32
  let v491 : BitVec 32 := Scalar.muli arg16 c256_i32
  let v497 : Index := Scalar.indexCast v491
  let c0_746 : Index := 0#32
  ![v497.toNat, 0]
@[reducible] def k0_t12_loop : Scf.Loop 32 :=
  let c0_i32_543 : BitVec 32 := 0#32
  let c8_i32_544 : BitVec 32 := 8#32
  let v366 : BitVec 32 := Scalar.addi c0_i32_543 c8_i32_544
  let c1_i32_545 : BitVec 32 := 1#32
  ⟨c0_i32_543, v366, c1_i32_545⟩
def k0_off34 (k0_t12 : Fin k0_t12_loop.trips) : Fin 2 → Nat :=
  let c0_i32_543 : BitVec 32 := 0#32
  let c1_i32_545 : BitVec 32 := 1#32
  let arg16 : BitVec 32 := Scf.iv c0_i32_543 c1_i32_545 k0_t12
  let c256_i32 : BitVec 32 := 256#32
  let v491 : BitVec 32 := Scalar.muli arg16 c256_i32
  let v492 : Index := Scalar.indexCast v491
  let c0_744 : Index := 0#32
  ![v492.toNat, 0]
def k0_off35 (k0_t12 : Fin k0_t12_loop.trips) : Fin 2 → Nat :=
  let c0_i32_543 : BitVec 32 := 0#32
  let c1_i32_545 : BitVec 32 := 1#32
  let arg16 : BitVec 32 := Scf.iv c0_i32_543 c1_i32_545 k0_t12
  let c256_i32 : BitVec 32 := 256#32
  let v491 : BitVec 32 := Scalar.muli arg16 c256_i32
  let v494 : Index := Scalar.indexCast v491
  let c0_745 : Index := 0#32
  ![v494.toNat, 0]
def k0_off36 (k0_t12 : Fin k0_t12_loop.trips) : Fin 2 → Nat :=
  let c0_i32_543 : BitVec 32 := 0#32
  let c1_i32_545 : BitVec 32 := 1#32
  let arg16 : BitVec 32 := Scf.iv c0_i32_543 c1_i32_545 k0_t12
  let c256_i32 : BitVec 32 := 256#32
  let v491 : BitVec 32 := Scalar.muli arg16 c256_i32
  let v497 : Index := Scalar.indexCast v491
  let c0_746 : Index := 0#32
  ![v497.toNat, 0]
def k0_dev25 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_594 : BitVec 32 := 1#32
  let v395 : BitVec 32 := Scalar.muli v5 c1_i32_594
  let v396 : BitVec 32 := Scalar.addi c0_i32_595 v395
  v396.toNat
def k0_dev26 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_597 : BitVec 32 := 1#32
  let v397 : BitVec 32 := Scalar.muli v7 c1_i32_597
  let v398 : BitVec 32 := Scalar.addi c0_i32_598 v397
  v398.toNat
def k0_dev27 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_605 : BitVec 32 := 1#32
  let v399 : BitVec 32 := Scalar.muli v7 c1_i32_605
  let v400 : BitVec 32 := Scalar.addi c0_i32_606 v399
  v400.toNat
def k0_dev28 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_619 : BitVec 32 := 1#32
  let v409 : BitVec 32 := Scalar.muli v5 c1_i32_619
  let v410 : BitVec 32 := Scalar.addi c0_i32_620 v409
  v410.toNat
@[reducible] def k0_t13_loop : Scf.Loop 32 :=
  let c0_i32_629 : BitVec 32 := 0#32
  let c8_i32_630 : BitVec 32 := 8#32
  let v422 : BitVec 32 := Scalar.addi c0_i32_629 c8_i32_630
  let c1_i32_631 : BitVec 32 := 1#32
  ⟨c0_i32_629, v422, c1_i32_631⟩
def k0_off37 (k0_t13 : Fin k0_t13_loop.trips) : Fin 2 → Nat :=
  let c0_i32_629 : BitVec 32 := 0#32
  let c1_i32_631 : BitVec 32 := 1#32
  let arg16 : BitVec 32 := Scf.iv c0_i32_629 c1_i32_631 k0_t13
  let c256_i32 : BitVec 32 := 256#32
  let v491 : BitVec 32 := Scalar.muli arg16 c256_i32
  let v492 : Index := Scalar.indexCast v491
  let c0_744 : Index := 0#32
  ![v492.toNat, 0]
def k0_off38 (k0_t13 : Fin k0_t13_loop.trips) : Fin 2 → Nat :=
  let c0_i32_629 : BitVec 32 := 0#32
  let c1_i32_631 : BitVec 32 := 1#32
  let arg16 : BitVec 32 := Scf.iv c0_i32_629 c1_i32_631 k0_t13
  let c256_i32 : BitVec 32 := 256#32
  let v491 : BitVec 32 := Scalar.muli arg16 c256_i32
  let v494 : Index := Scalar.indexCast v491
  let c0_745 : Index := 0#32
  ![v494.toNat, 0]
def k0_off39 (k0_t13 : Fin k0_t13_loop.trips) : Fin 2 → Nat :=
  let c0_i32_629 : BitVec 32 := 0#32
  let c1_i32_631 : BitVec 32 := 1#32
  let arg16 : BitVec 32 := Scf.iv c0_i32_629 c1_i32_631 k0_t13
  let c256_i32 : BitVec 32 := 256#32
  let v491 : BitVec 32 := Scalar.muli arg16 c256_i32
  let v497 : Index := Scalar.indexCast v491
  let c0_746 : Index := 0#32
  ![v497.toNat, 0]
@[reducible] def k0_t14_loop : Scf.Loop 32 :=
  let c0_i32_635 : BitVec 32 := 0#32
  let c8_i32_636 : BitVec 32 := 8#32
  let v425 : BitVec 32 := Scalar.addi c0_i32_635 c8_i32_636
  let c1_i32_637 : BitVec 32 := 1#32
  ⟨c0_i32_635, v425, c1_i32_637⟩
def k0_off40 (k0_t14 : Fin k0_t14_loop.trips) : Fin 2 → Nat :=
  let c0_i32_635 : BitVec 32 := 0#32
  let c1_i32_637 : BitVec 32 := 1#32
  let arg16 : BitVec 32 := Scf.iv c0_i32_635 c1_i32_637 k0_t14
  let c256_i32 : BitVec 32 := 256#32
  let v491 : BitVec 32 := Scalar.muli arg16 c256_i32
  let v492 : Index := Scalar.indexCast v491
  let c0_744 : Index := 0#32
  ![v492.toNat, 0]
def k0_off41 (k0_t14 : Fin k0_t14_loop.trips) : Fin 2 → Nat :=
  let c0_i32_635 : BitVec 32 := 0#32
  let c1_i32_637 : BitVec 32 := 1#32
  let arg16 : BitVec 32 := Scf.iv c0_i32_635 c1_i32_637 k0_t14
  let c256_i32 : BitVec 32 := 256#32
  let v491 : BitVec 32 := Scalar.muli arg16 c256_i32
  let v494 : Index := Scalar.indexCast v491
  let c0_745 : Index := 0#32
  ![v494.toNat, 0]
def k0_off42 (k0_t14 : Fin k0_t14_loop.trips) : Fin 2 → Nat :=
  let c0_i32_635 : BitVec 32 := 0#32
  let c1_i32_637 : BitVec 32 := 1#32
  let arg16 : BitVec 32 := Scf.iv c0_i32_635 c1_i32_637 k0_t14
  let c256_i32 : BitVec 32 := 256#32
  let v491 : BitVec 32 := Scalar.muli arg16 c256_i32
  let v497 : Index := Scalar.indexCast v491
  let c0_746 : Index := 0#32
  ![v497.toNat, 0]
def k0_dev29 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_686 : BitVec 32 := 1#32
  let v454 : BitVec 32 := Scalar.muli v5 c1_i32_686
  let v455 : BitVec 32 := Scalar.addi c0_i32_687 v454
  v455.toNat
def k0_dev30 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_694 : BitVec 32 := 1#32
  let v456 : BitVec 32 := Scalar.muli v7 c1_i32_694
  let v457 : BitVec 32 := Scalar.addi c0_i32_695 v456
  v457.toNat
@[reducible] def k0_t15_loop : Scf.Loop 32 :=
  let c0_i32_704 : BitVec 32 := 0#32
  let c8_i32_705 : BitVec 32 := 8#32
  let v469 : BitVec 32 := Scalar.addi c0_i32_704 c8_i32_705
  let c1_i32_706 : BitVec 32 := 1#32
  ⟨c0_i32_704, v469, c1_i32_706⟩
def k0_off43 (k0_t15 : Fin k0_t15_loop.trips) : Fin 2 → Nat :=
  let c0_i32_704 : BitVec 32 := 0#32
  let c1_i32_706 : BitVec 32 := 1#32
  let arg16 : BitVec 32 := Scf.iv c0_i32_704 c1_i32_706 k0_t15
  let c256_i32 : BitVec 32 := 256#32
  let v491 : BitVec 32 := Scalar.muli arg16 c256_i32
  let v492 : Index := Scalar.indexCast v491
  let c0_744 : Index := 0#32
  ![v492.toNat, 0]
def k0_off44 (k0_t15 : Fin k0_t15_loop.trips) : Fin 2 → Nat :=
  let c0_i32_704 : BitVec 32 := 0#32
  let c1_i32_706 : BitVec 32 := 1#32
  let arg16 : BitVec 32 := Scf.iv c0_i32_704 c1_i32_706 k0_t15
  let c256_i32 : BitVec 32 := 256#32
  let v491 : BitVec 32 := Scalar.muli arg16 c256_i32
  let v494 : Index := Scalar.indexCast v491
  let c0_745 : Index := 0#32
  ![v494.toNat, 0]
def k0_off45 (k0_t15 : Fin k0_t15_loop.trips) : Fin 2 → Nat :=
  let c0_i32_704 : BitVec 32 := 0#32
  let c1_i32_706 : BitVec 32 := 1#32
  let arg16 : BitVec 32 := Scf.iv c0_i32_704 c1_i32_706 k0_t15
  let c256_i32 : BitVec 32 := 256#32
  let v491 : BitVec 32 := Scalar.muli arg16 c256_i32
  let v497 : Index := Scalar.indexCast v491
  let c0_746 : Index := 0#32
  ![v497.toNat, 0]
@[reducible] def k0_t16_loop : Scf.Loop 32 :=
  let c0_i32_710 : BitVec 32 := 0#32
  let c8_i32_711 : BitVec 32 := 8#32
  let v472 : BitVec 32 := Scalar.addi c0_i32_710 c8_i32_711
  let c1_i32_712 : BitVec 32 := 1#32
  ⟨c0_i32_710, v472, c1_i32_712⟩
def k0_off46 (k0_t16 : Fin k0_t16_loop.trips) : Fin 2 → Nat :=
  let c0_i32_710 : BitVec 32 := 0#32
  let c1_i32_712 : BitVec 32 := 1#32
  let arg16 : BitVec 32 := Scf.iv c0_i32_710 c1_i32_712 k0_t16
  let c256_i32 : BitVec 32 := 256#32
  let v491 : BitVec 32 := Scalar.muli arg16 c256_i32
  let v492 : Index := Scalar.indexCast v491
  let c0_744 : Index := 0#32
  ![v492.toNat, 0]
def k0_off47 (k0_t16 : Fin k0_t16_loop.trips) : Fin 2 → Nat :=
  let c0_i32_710 : BitVec 32 := 0#32
  let c1_i32_712 : BitVec 32 := 1#32
  let arg16 : BitVec 32 := Scf.iv c0_i32_710 c1_i32_712 k0_t16
  let c256_i32 : BitVec 32 := 256#32
  let v491 : BitVec 32 := Scalar.muli arg16 c256_i32
  let v494 : Index := Scalar.indexCast v491
  let c0_745 : Index := 0#32
  ![v494.toNat, 0]
def k0_off48 (k0_t16 : Fin k0_t16_loop.trips) : Fin 2 → Nat :=
  let c0_i32_710 : BitVec 32 := 0#32
  let c1_i32_712 : BitVec 32 := 1#32
  let arg16 : BitVec 32 := Scf.iv c0_i32_710 c1_i32_712 k0_t16
  let c256_i32 : BitVec 32 := 256#32
  let v491 : BitVec 32 := Scalar.muli arg16 c256_i32
  let v497 : Index := Scalar.indexCast v491
  let c0_746 : Index := 0#32
  ![v497.toNat, 0]
@[reducible] def k0_t17_loop : Scf.Loop 32 :=
  let c0_i32_740 : BitVec 32 := 0#32
  let c8_i32_741 : BitVec 32 := 8#32
  let v490 : BitVec 32 := Scalar.addi c0_i32_740 c8_i32_741
  let c1_i32_742 : BitVec 32 := 1#32
  ⟨c0_i32_740, v490, c1_i32_742⟩
def k0_off49 (k0_t17 : Fin k0_t17_loop.trips) : Fin 2 → Nat :=
  let c0_i32_740 : BitVec 32 := 0#32
  let c1_i32_742 : BitVec 32 := 1#32
  let arg16 : BitVec 32 := Scf.iv c0_i32_740 c1_i32_742 k0_t17
  let c256_i32 : BitVec 32 := 256#32
  let v491 : BitVec 32 := Scalar.muli arg16 c256_i32
  let v492 : Index := Scalar.indexCast v491
  let c0_744 : Index := 0#32
  ![v492.toNat, 0]
def k0_off50 (k0_t17 : Fin k0_t17_loop.trips) : Fin 2 → Nat :=
  let c0_i32_740 : BitVec 32 := 0#32
  let c1_i32_742 : BitVec 32 := 1#32
  let arg16 : BitVec 32 := Scf.iv c0_i32_740 c1_i32_742 k0_t17
  let c256_i32 : BitVec 32 := 256#32
  let v491 : BitVec 32 := Scalar.muli arg16 c256_i32
  let v494 : Index := Scalar.indexCast v491
  let c0_745 : Index := 0#32
  ![v494.toNat, 0]
def k0_off51 (k0_t17 : Fin k0_t17_loop.trips) : Fin 2 → Nat :=
  let c0_i32_740 : BitVec 32 := 0#32
  let c1_i32_742 : BitVec 32 := 1#32
  let arg16 : BitVec 32 := Scf.iv c0_i32_740 c1_i32_742 k0_t17
  let c256_i32 : BitVec 32 := 256#32
  let v491 : BitVec 32 := Scalar.muli arg16 c256_i32
  let v497 : Index := Scalar.indexCast v491
  let c0_746 : Index := 0#32
  ![v497.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x512 : Shape := ⟨2, ![32768, 512]⟩
abbrev S512x64 : Shape := ⟨2, ![512, 64]⟩
abbrev S32768x1 : Shape := ⟨2, ![32768, 1]⟩
abbrev S64x512x1024 : Shape := ⟨3, ![64, 512, 1024]⟩
abbrev S512x1024 : Shape := ⟨2, ![512, 1024]⟩
abbrev S32768x64 : Shape := ⟨2, ![32768, 64]⟩
abbrev S_ : Shape := ⟨0, ![]⟩
abbrev S32768 : Shape := ⟨1, ![32768]⟩
abbrev S32768x1024 : Shape := ⟨2, ![32768, 1024]⟩
abbrev S32768x2 : Shape := ⟨2, ![32768, 2]⟩
abbrev S2 : Shape := ⟨1, ![2]⟩
abbrev S1x2 : Shape := ⟨2, ![1, 2]⟩
abbrev S32768x512x1024 : Shape := ⟨3, ![32768, 512, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S512x64, .bf16⟩
  | .hbm, ⟨2, _⟩ => ⟨S32768x1, .i32⟩
  | .hbm, ⟨3, _⟩ => ⟨S64x512x1024, .bf16⟩
  | .hbm, ⟨4, _⟩ => ⟨S512x1024, .bf16⟩
  | .hbm, ⟨5, _⟩ => ⟨S32768x512, .f32⟩
  | .hbm, ⟨6, _⟩ => ⟨S512x64, .f32⟩
  | .hbm, ⟨7, _⟩ => ⟨S64x512x1024, .f32⟩
  | .hbm, ⟨8, _⟩ => ⟨S512x1024, .f32⟩
  | .hbm, ⟨9, _⟩ => ⟨S32768x64, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | .hbm, ⟨21, _⟩ => ⟨S32768x1024, .f32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768x1, .i32⟩
  | .hbm, ⟨26, _⟩ => ⟨S32768x2, .i32⟩
  | .hbm, ⟨27, _⟩ => ⟨S2, .i32⟩
  | .hbm, ⟨28, _⟩ => ⟨S_, .i32⟩
  | .hbm, ⟨29, _⟩ => ⟨S32768x2, .i32⟩
  | .hbm, ⟨30, _⟩ => ⟨S32768x2, .i1⟩
  | .hbm, ⟨31, _⟩ => ⟨S1x2, .i32⟩
  | .hbm, ⟨32, _⟩ => ⟨S32768x2, .i32⟩
  | .hbm, ⟨33, _⟩ => ⟨S32768x2, .i1⟩
  | .hbm, ⟨34, _⟩ => ⟨S32768x2, .i1⟩
  | .hbm, ⟨35, _⟩ => ⟨S_, .i1⟩
  | .hbm, ⟨36, _⟩ => ⟨S32768, .i1⟩
  | .hbm, ⟨37, _⟩ => ⟨S32768, .f32⟩
  | .hbm, ⟨38, _⟩ => ⟨S_, .f32⟩
  | .hbm, ⟨39, _⟩ => ⟨S32768, .f32⟩
  | .hbm, ⟨40, _⟩ => ⟨S32768, .f32⟩
  | .hbm, ⟨41, _⟩ => ⟨S32768x1, .i32⟩
  | .hbm, ⟨42, _⟩ => ⟨S32768x512x1024, .f32⟩
  | .hbm, ⟨43, _⟩ => ⟨S32768x1024, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Slots.lean ====
/-
The ring of sixteen devices, the two communication buffers and their slots.

Direction `true` is the stream that moves to the right neighbour (buffer `cc0_scratch2`), direction `false` the
stream that moves to the left neighbour (buffer `cc0_scratch3`). Each buffer has two slots; slot `s` holds the four
expert blocks of one device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

/-- The neighbour a stream of direction `b` moves to. -/
def fwd (b : Bool) (c : Dev nD) : Dev nD := ⟨(c.val + bif b then 1 else 15) % 16, Nat.mod_lt _ (by decide)⟩
/-- The neighbour it comes from. -/
def back (b : Bool) (c : Dev nD) : Dev nD := fwd (!b) c

theorem back_fwd (b : Bool) (c : Dev nD) : back b (fwd b c) = c := by revert b c; decide
theorem fwd_back (b : Bool) (c : Dev nD) : fwd b (back b c) = c := by revert b c; decide
theorem back_not (b : Bool) (c : Dev nD) : back (!b) c = fwd b c := by simp [back]
theorem fwd_not (b : Bool) (c : Dev nD) : fwd (!b) c = back b c := rfl

/-- Going forward in a direction permutes the devices. -/
def turn (b : Bool) : Dev nD ≃ Dev nD := ⟨fwd b, back b, back_fwd b, fwd_back b⟩

/-- The device whose experts device `c` holds in direction `b` after `h` hops. -/
def own (b : Bool) (c : Dev nD) (h : ℕ) : Dev nD := ⟨(c.val + (bif b then 15 else 1) * h) % 16, Nat.mod_lt _ (by decide)⟩

theorem own_zero (b : Bool) (c : Dev nD) : own b c 0 = c := Fin.ext (by
  have := c.isLt; simp only [own, Nat.mul_zero, Nat.add_zero]; exact Nat.mod_eq_of_lt this)
theorem own_fwd (b : Bool) (c : Dev nD) (h : ℕ) : own b (fwd b c) (h + 1) = own b c h := Fin.ext (by
  cases b <;> simp only [own, fwd, cond_true, cond_false] <;> omega)

/-- The parity of a hop: the slot the hop sends from. -/
def par (h : ℕ) : Fin 2 := ⟨h % 2, Nat.mod_lt _ (by decide)⟩
theorem par_add_two (h : ℕ) : par (h + 2) = par h := Fin.ext (by simp only [par]; omega)

/-! ## The buffers -/

abbrev commRef (b : Bool) : Ref sig .tc := bif b then cc0_scratch2 else cc0_scratch3

abbrev commShape : Shape := S2x4x512x1024

/-- The communication buffer of direction `b`. -/
def commM : Bool → Memref sig .tc .vmem S2x4x512x1024 .bf16
  | true => Memref.whole cc0_scratch2
  | false => Memref.whole cc0_scratch3

theorem slot_inb (s : Fin 2) : ∀ a, (![s.val, 0, 0, 0] : Fin 4 → ℕ) a + S1x4x512x1024.size a ≤ S2x4x512x1024.size a := by
  revert s; decide

/-- The rectangle of slot `s`. -/
abbrev slotRect (s : Fin 2) : Rect S2x4x512x1024 := Rect.unit (s := S2x4x512x1024) ![s.val, 0, 0, 0] S1x4x512x1024.size (slot_inb s)

/-- Slot `s` of the communication buffer of direction `b`, as the transfers name it. -/
abbrev slotM (b : Bool) (s : Fin 2) : Memref sig .tc .vmem S4x512x1024 .bf16 :=
  ((commM b).slice (slotRect s) (fun _ => rfl)).squeeze S4x512x1024 squeezes_S1x4x512x1024_S4x512x1024

/-- Whole contents of a communication buffer. -/
abbrev CommBuf : Type := S2x4x512x1024.Idx → Elt F .bf16

/-- The elements of slot `s`. -/
def slotSet (s : Fin 2) : Finset S2x4x512x1024.Idx := (slotRect s).set

theorem mem_slotSet (s : Fin 2) (i : S2x4x512x1024.Idx) : i ∈ slotSet s ↔ (i (0 : Fin 4)).val = s.val := by
  unfold slotSet slotRect
  rw [Rect.mem_set_unit]
  constructor
  · intro h
    have h0 := h (0 : Fin 4)
    simp only [Matrix.cons_val_zero] at h0
    have : S1x4x512x1024.size (0 : Fin 4) = 1 := rfl
    omega
  · intro h a
    fin_cases a
    · show s.val ≤ (i (0 : Fin 4)).val ∧ (i (0 : Fin 4)).val < s.val + 1
      omega
    · exact ⟨Nat.zero_le _, by show (i (1 : Fin 4)).val < 0 + 4; have := (i (1 : Fin 4)).isLt; exact Nat.lt_of_lt_of_eq this rfl⟩
    · exact ⟨Nat.zero_le _, by show (i (2 : Fin 4)).val < 0 + 512; have := (i (2 : Fin 4)).isLt; exact Nat.lt_of_lt_of_eq this rfl⟩
    · exact ⟨Nat.zero_le _, by show (i (3 : Fin 4)).val < 0 + 1024; have := (i (3 : Fin 4)).isLt; exact Nat.lt_of_lt_of_eq this rfl⟩

theorem slotSet_disjoint : Disjoint (slotSet 0) (slotSet 1) :=
  Finset.disjoint_left.2 fun i h0 h1 => by rw [mem_slotSet] at h0 h1; rw [h0] at h1; exact absurd h1 (by decide)
theorem slotSet_union : slotSet 0 ∪ slotSet 1 = Finset.univ := Finset.eq_univ_iff_forall.2 fun i => by
  rw [Finset.mem_union, mem_slotSet, mem_slotSet]
  have h2 : S2x4x512x1024.size (0 : Fin 4) = 2 := rfl
  have := (i (0 : Fin 4)).isLt
  have h3 : ((1 : Fin 2) : ℕ) = 1 := rfl
  have h4 : ((0 : Fin 2) : ℕ) = 0 := rfl
  omega

/-- The points-to of slot `s` of direction `b`'s buffer on device `c`, at share `q` and contents `f`. -/
def slotPts (b : Bool) (s : Fin 2) (c : Dev nD) (q : PosShare TreeShare) (f : CommBuf (F := F))
    {Ix Name U Lvl : Type} [DecidableEq Ix] [DecidableEq Name] [URA U] : sProp (MT nD τ sig Ix (Elt F) Name U Lvl) :=
  match b with
  | true => ((c : Thread nD τ).loc cc0_scratch2) ↦[slotSet s]{q} f
  | false => ((c : Thread nD τ).loc cc0_scratch3) ↦[slotSet s]{q} f

/-- The blocks of the experts `W` in a communication buffer: the same in either slot. -/
def blk (W : S4x512x1024.Idx → Elt F .bf16) : CommBuf (F := F) :=
  fun i => W (fun a => match a with | ⟨0, _⟩ => i (1 : Fin 4) | ⟨1, _⟩ => i (2 : Fin 4) | ⟨2, _⟩ => i (3 : Fin 4))

omit [FloatOps F] in
theorem blk_congr (W : S4x512x1024.Idx → Elt F .bf16) {i j : S2x4x512x1024.Idx} (h1 : i (1 : Fin 4) = j (1 : Fin 4)) (h2 : i (2 : Fin 4) = j (2 : Fin 4))
    (h3 : i (3 : Fin 4) = j (3 : Fin 4)) : blk W i = blk W j := by unfold blk; rw [h1, h2, h3]

section Pts
variable {Ix Name U Lvl : Type} [DecidableEq Ix] [DecidableEq Name] [URA U]
local notation "𝕄" => MT nD τ sig Ix (Elt F) Name U Lvl

instance slotPts_storable (b : Bool) (s : Fin 2) (c : Dev nD) (q) (f : CommBuf (F := F)) :
    BI.Storable (upEmb : UEmb _ 𝕄) (slotPts b s c q f : sProp 𝕄) := by cases b <;> (unfold slotPts; infer_instance)

omit [FloatOps F] in
/-- A slot at the full share is its two halves. -/
theorem slotPts_halves (b : Bool) (s : Fin 2) (c : Dev nD) (f : CommBuf (F := F)) :
    (slotPts b s c fullShare f : sProp 𝕄) ⊣⊢ iprop(slotPts b s c fullShare.left f ∗ slotPts b s c fullShare.right f) := by
  cases b <;> exact pointsTo_share (PosShare.mem_left_op_right fullShare)

omit [FloatOps F] in
theorem slotPts_congr (b : Bool) (s : Fin 2) (c : Dev nD) (q) {f g : CommBuf (F := F)} (h : ∀ i ∈ slotSet s, f i = g i) :
    (slotPts b s c q f : sProp 𝕄) = slotPts b s c q g := by
  cases b <;> exact pointsTo_congr h

end Pts

end Cert.KernelIdeal.Ring

end
-- ==== Proof.Proto.lean ====
/-
The protocol of the ring exchange: the semaphores of a device, what each of their rounds pays and hands over, what a
device owes at each point, and the order in which waits are allowed.

Per device there is the runtime's barrier semaphore and, for each direction, two send semaphores and two receive
semaphores (one per slot) and one semaphore on which the neighbour ahead returns a slot.
-/
module

public import proofs.«01_k».proof.Proof.Slots
public import Idealize.ShloMosaic.Lib.Rounds

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- The semaphores of a device. -/
inductive Kind
  | bar
  | send (b : Bool) (s : Fin 2)
  | recv (b : Bool) (s : Fin 2)
  | free (b : Bool)
deriving DecidableEq

/-- All of them, in a list. -/
def Kind.all : List Kind := [.bar, .send true 0, .send true 1, .recv true 0, .recv true 1, .free true, .send false 0, .send false 1,
  .recv false 0, .recv false 1, .free false]

theorem Kind.mem_all (k : Kind) : k ∈ Kind.all := by
  rcases k with _ | ⟨b, s⟩ | ⟨b, s⟩ | b
  · decide
  · revert b s; decide
  · revert b s; decide
  · revert b; decide

instance : Fintype Kind := ⟨Kind.all.toFinset, fun k => List.mem_toFinset.2 (Kind.mem_all k)⟩

def semOf : Kind → SemLoc sig
  | .bar => .reg (2 : Fin 3)
  | .send true s => .dma ⟨6 + s.val, by have : sig.nDmaSem = 14 := rfl; omega⟩
  | .send false s => .dma ⟨10 + s.val, by have : sig.nDmaSem = 14 := rfl; omega⟩
  | .recv true s => .dma ⟨8 + s.val, by have : sig.nDmaSem = 14 := rfl; omega⟩
  | .recv false s => .dma ⟨12 + s.val, by have : sig.nDmaSem = 14 := rfl; omega⟩
  | .free true => .reg (0 : Fin 3)
  | .free false => .reg (1 : Fin 3)

/-- The kind of a semaphore, if the exchange uses it. -/
def kindOf : SemLoc sig → Option Kind
  | .reg s => if s.val = 2 then some .bar else if s.val = 0 then some (.free true) else some (.free false)
  | .dma s => if s.val < 6 then none else if s.val < 8 then some (.send true (par s.val)) else if s.val < 10 then some (.recv true (par s.val))
      else if s.val < 12 then some (.send false (par s.val)) else some (.recv false (par s.val))

theorem kindOf_semOf (k : Kind) : kindOf (semOf k) = some k := by revert k; decide

theorem semOf_injective : Function.Injective semOf := fun k k' h => by
  have := kindOf_semOf k; rw [h, kindOf_semOf k'] at this; exact (Option.some.inj this).symm

abbrev cell (k : Kind) (c : Dev nD) : GSem nD τ sig := ((c : Thread nD τ), semOf k)

/-- The send and the receive cell of hop `h`. -/
abbrev sendC (b : Bool) (c : Dev nD) (h : ℕ) : GSem nD τ sig := cell (.send b (par h)) c
abbrev recvC (b : Bool) (c : Dev nD) (h : ℕ) : GSem nD τ sig := cell (.recv b (par (h + 1))) c
abbrev freeC (b : Bool) (c : Dev nD) : GSem nD τ sig := cell (.free b) c
abbrev barC (c : Dev nD) : GSem nD τ sig := cell .bar c

theorem cell_inj {k k' : Kind} {c c' : Dev nD} (h : cell k c = cell k' c') : k = k' ∧ c = c' :=
  ⟨semOf_injective (congrArg Prod.snd h), by have := congrArg (fun g : GSem nD τ sig => g.1.1) h; exact this⟩

/-- The number of hops of a direction. -/
def hops : Bool → ℕ
  | true => 8
  | false => 7

theorem hops_le (b : Bool) : hops b ≤ 8 := by cases b <;> decide
theorem hops_ge (b : Bool) : 7 ≤ hops b := by cases b <;> decide

/-- The credit of a slot's transfer. -/
def N : ℕ := (slotM true 0).view.dmaCredit
theorem N_pos : 0 < N := View.dmaCredit_pos _ (Shape.numel_pos (s := S4x512x1024) (by decide))

/-! ## The schedule -/

variable (E : Dev nD → S4x512x1024.Idx → Elt F .bf16)

/-- The target of hop `h` of device `c`: the neighbour's slot, and that the neighbour waits for this hop's arrival. -/
def Tgt (b : Bool) (c : Dev nD) (h : ℕ) : sProp 𝕄 :=
  iprop((∃ f, slotPts b (par (h + 1)) (fwd b c) fullShare f) ∗ reached ER (recvC b (fwd b c) h) (h / 2))

/-- What device `c` holds in slot `s` of direction `b` after `h` hops. -/
def holds (b : Bool) (c : Dev nD) (h : ℕ) : CommBuf (F := F) := blk (E (own b c h))

/-- The hop whose send completes in round `r` of slot `s`'s send semaphore, and whose arrival completes in round `r` of
    slot `s`'s receive semaphore. -/
def sendHop (s : Fin 2) (r : ℕ) : ℕ := 2 * r + s.val
def recvHop (s : Fin 2) (r : ℕ) : ℕ := 2 * r + 1 - s.val

def dutiesK : Kind → ℕ → Finset Bool
  | .bar, r => if r = 0 then Finset.univ else ∅
  | .send b s, r => if sendHop s r < hops b then {false} else ∅
  | .recv b s, r => if recvHop s r < hops b then {false} else ∅
  | .free b, r => if r + 1 < hops b then {false} else ∅

def amountK : Kind → ℕ
  | .bar => 1
  | .free _ => 1
  | .send _ _ => N
  | .recv _ _ => N

def payK (c : Dev nD) : Kind → ℕ → Bool → sProp 𝕄
  | .bar, _, d => Tgt d c 0
  | .send b s, r, _ => slotPts b s c fullShare.left (holds E b c (sendHop s r))
  | .recv b s, r, _ => iprop(slotPts b s c fullShare (holds E b c (recvHop s r + 1)) ∗ reached ER (freeC b (back b c)) (recvHop s r))
  | .free b, r, _ => Tgt b c (r + 1)

instance Tgt_storable (b : Bool) (c : Dev nD) (h : ℕ) : BI.Storable (upEmb : UEmb _ 𝕄) (Tgt (F := F) b c h) := by unfold Tgt; infer_instance

instance payK_storable (c : Dev nD) (k : Kind) (r : ℕ) (d : Bool) : BI.Storable (upEmb : UEmb _ 𝕄) (payK E c k r d) := by
  cases k <;> (unfold payK; infer_instance)

def Rd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK E g.1.1 k r d | none => iprop(emp)
  amount_pos g _ _ _ := by
    cases kindOf g.2 with
    | none => exact Nat.one_pos
    | some k => cases k <;> first | exact Nat.one_pos | exact N_pos

instance Rd_storable (g : GSem nD τ sig) (r : ℕ) (d : Bool) : BI.Storable (upEmb : UEmb _ 𝕄) ((Rd E).payload g r d) := by
  show BI.Storable upEmb (match kindOf g.2 with | some k => payK E g.1.1 k r d | none => iprop(emp))
  split <;> infer_instance

omit [FloatOps F] in
theorem Rd_duties (k : Kind) (c : Dev nD) (r : ℕ) : (Rd E).duties (cell k c) r = dutiesK k r := by
  dsimp only [Rd]; rw [if_pos rfl, kindOf_semOf]
omit [FloatOps F] in
theorem Rd_amount (k : Kind) (c : Dev nD) (r : ℕ) (d : Bool) : (Rd E).amount (cell k c) r d = amountK k := by
  dsimp only [Rd]; rw [kindOf_semOf]
omit [FloatOps F] in
theorem Rd_payload (k : Kind) (c : Dev nD) (r : ℕ) (d : Bool) : (Rd E).payload (cell k c) r d = payK E c k r d := by
  dsimp only [Rd]; rw [kindOf_semOf]

theorem sendHop_par (h : ℕ) : sendHop (par h) (h / 2) = h := by simp only [sendHop, par]; omega
theorem recvHop_par (h : ℕ) : recvHop (par (h + 1)) (h / 2) = h := by simp only [recvHop, par]; omega

theorem dutiesK_send {b : Bool} {h : ℕ} (hh : h < hops b) : dutiesK (.send b (par h)) (h / 2) = {false} :=
  if_pos (by rw [sendHop_par]; exact hh)
theorem dutiesK_recv {b : Bool} {h : ℕ} (hh : h < hops b) : dutiesK (.recv b (par (h + 1))) (h / 2) = {false} :=
  if_pos (by rw [recvHop_par]; exact hh)
theorem dutiesK_free {b : Bool} {h : ℕ} (hh : h + 1 < hops b) : dutiesK (.free b) h = {false} := if_pos hh

omit [FloatOps F] in
theorem payK_send (b : Bool) (c : Dev nD) (h : ℕ) (d : Bool) :
    payK E c (.send b (par h)) (h / 2) d = slotPts b (par h) c fullShare.left (holds E b c h) := by
  show slotPts b (par h) c fullShare.left (holds E b c (sendHop (par h) (h / 2))) = _
  rw [sendHop_par]
omit [FloatOps F] in
theorem payK_recv (b : Bool) (c : Dev nD) (h : ℕ) (d : Bool) :
    payK E c (.recv b (par (h + 1))) (h / 2) d
      = iprop(slotPts b (par (h + 1)) c fullShare (holds E b c (h + 1)) ∗ reached ER (freeC b (back b c)) h) := by
  show iprop(slotPts b (par (h + 1)) c fullShare (holds E b c (recvHop (par (h + 1)) (h / 2) + 1))
    ∗ reached ER (freeC b (back b c)) (recvHop (par (h + 1)) (h / 2))) = _
  rw [recvHop_par]

omit [FloatOps F] in
/-- A cell with the one duty `false` in a round expects that duty's amount and hands over that duty's payload. -/
theorem Rd_expect {k : Kind} (c : Dev nD) {r : ℕ} (hd : dutiesK k r = {false}) : (Rd E).expect (cell k c) r = amountK k := by
  unfold Schedule.expect Schedule.amountOf; rw [Rd_duties, hd, Finset.sum_singleton, Rd_amount]
omit [FloatOps F] in
theorem Rd_rest {k : Kind} (c : Dev nD) {r : ℕ} (hd : dutiesK k r = {false}) :
    bigSep ((Rd E).duties (cell k c) r \ ∅) (fun d => (Rd E).payload (cell k c) r d) = payK E c k r false := by
  rw [Finset.sdiff_empty, Rd_duties, hd, bigSep_singleton, Rd_payload]
omit [FloatOps F] in
theorem Rd_expect_bar (c : Dev nD) : (Rd E).expect (barC c) 0 = 2 := by
  unfold Schedule.expect Schedule.amountOf
  rw [Rd_duties, show dutiesK .bar 0 = Finset.univ from rfl, Finset.sum_congr rfl fun d _ => Rd_amount E .bar c 0 d]; rfl
omit [FloatOps F] in
theorem Rd_rest_bar (c : Dev nD) :
    bigSep ((Rd E).duties (barC c) 0 \ ∅) (fun d => (Rd E).payload (barC c) 0 d) = iprop(Tgt true c 0 ∗ Tgt false c 0) := by
  rw [Finset.sdiff_empty, Rd_duties, show dutiesK .bar 0 = Finset.univ from rfl,
    bigSep_univ_eq_bigSepL [true, false] (by decide) (by decide), bigSepL_cons_cons, bigSepL_singleton, Rd_payload, Rd_payload]
  rfl

/-- The round from which a cell has no duties. -/
def lastRound : Kind → ℕ
  | .bar => 1
  | .send b s => (hops b + 1 - s.val) / 2
  | .recv b s => (hops b + s.val) / 2
  | .free b => hops b - 1

omit [FloatOps F] in
theorem Rd_duties_later (k : Kind) (c : Dev nD) : ∀ r, lastRound k ≤ r → (Rd E).duties (cell k c) r = ∅ := by
  intro r hr
  rw [Rd_duties]
  cases k with
  | bar => exact if_neg (by have : 1 ≤ r := hr; omega)
  | send b s => exact if_neg (by have : (hops b + 1 - s.val) / 2 ≤ r := hr; have := s.isLt; unfold sendHop; omega)
  | recv b s => exact if_neg (by have : (hops b + s.val) / 2 ≤ r := hr; have := s.isLt; unfold recvHop; omega)
  | free b => exact if_neg (by have : hops b - 1 ≤ r := hr; have := hops_ge b; omega)

/-! ## What a device owes -/

theorem Ico_peel {a n : ℕ} (h : a < n) : Finset.Ico a n = insert a (Finset.Ico (a + 1) n) := by
  ext i; rw [Finset.mem_insert, Finset.mem_Ico, Finset.mem_Ico]; omega
theorem notMem_Ico_succ (a n : ℕ) : a ∉ Finset.Ico (a + 1) n := by rw [Finset.mem_Ico]; omega

/-- What remains to be paid in direction `b` by device `c` when its next send is hop `a` and the next slot it returns is
    that of hop `e`: the arrivals at the neighbour ahead, and the slots returned to the neighbour behind. -/
def due (b : Bool) (c : Dev nD) (a e : ℕ) : CellTallies nD τ sig ℕ :=
  (∑ h ∈ Finset.Ico a (hops b), tallyAt (recvC b (fwd b c) h) h N) + ∑ h ∈ Finset.Ico e (hops b - 1), tallyAt (freeC b (back b c)) h 1

theorem due_send {b : Bool} (c : Dev nD) {a : ℕ} (e : ℕ) (ha : a < hops b) :
    due b c a e = due b c (a + 1) e + tallyAt (recvC b (fwd b c) a) a N := by
  unfold due; rw [Ico_peel ha, Finset.sum_insert (notMem_Ico_succ _ _), add_assoc, add_comm]
theorem due_free {b : Bool} (c : Dev nD) (a : ℕ) {e : ℕ} (he : e + 1 < hops b) :
    due b c a e = due b c a (e + 1) + tallyAt (freeC b (back b c)) e 1 := by
  unfold due; rw [Ico_peel (show e < hops b - 1 by omega), Finset.sum_insert (notMem_Ico_succ _ _), add_assoc, add_comm (tallyAt _ _ _)]
theorem due_done (b : Bool) (c : Dev nD) {a e : ℕ} (ha : hops b ≤ a) (he : hops b - 1 ≤ e) : due b c a e = 0 := by
  unfold due; rw [Finset.Ico_eq_empty (by omega), Finset.Ico_eq_empty (by omega), Finset.sum_empty, Finset.sum_empty, add_zero]

/-- The dues of both directions. -/
def dues (c : Dev nD) (x : Bool → ℕ × ℕ) : CellTallies nD τ sig ℕ := due true c (x true).1 (x true).2 + due false c (x false).1 (x false).2

theorem sum_pos {ι : Type} {s : Finset ι} {f : ι → CellTallies nD τ sig ℕ} {g : GSem nD τ sig} {u : ℕ}
    (h : 0 < (∑ i ∈ s, f i) g u) : ∃ i ∈ s, 0 < f i g u := by
  classical
  by_contra hn
  push Not at hn
  rw [Finset.sum_apply, Finsupp.finsetSum_apply] at h
  exact absurd (Finset.sum_eq_zero fun i hi => Nat.le_zero.1 (hn i hi)) (by omega)

theorem tally_pos {g g' : GSem nD τ sig} {u u' n : ℕ} (h : 0 < tallyAt g' u' n g u) : g = g' ∧ u = u' := by
  rw [tallyAt_apply] at h
  by_contra hn
  rw [if_neg hn] at h
  exact Nat.lt_irrefl 0 h

theorem due_pos {b : Bool} {c : Dev nD} {a e : ℕ} {g : GSem nD τ sig} {u : ℕ} (h : 0 < due b c a e g u) :
    (a ≤ u ∧ u < hops b ∧ g = recvC b (fwd b c) u) ∨ (e ≤ u ∧ u + 1 < hops b ∧ g = freeC b (back b c)) := by
  unfold due at h
  rw [Pi.add_apply, Finsupp.add_apply] at h
  rcases Nat.eq_zero_or_pos ((∑ h ∈ Finset.Ico a (hops b), tallyAt (recvC b (fwd b c) h) h N) g u) with h0 | h0
  · rw [h0, Nat.zero_add] at h
    obtain ⟨i, hi, hp⟩ := sum_pos h
    obtain ⟨rfl, rfl⟩ := tally_pos hp
    rw [Finset.mem_Ico] at hi
    exact .inr ⟨hi.1, by omega, rfl⟩
  · obtain ⟨i, hi, hp⟩ := sum_pos h0
    obtain ⟨rfl, rfl⟩ := tally_pos hp
    rw [Finset.mem_Ico] at hi
    exact .inl ⟨hi.1, hi.2, rfl⟩

theorem dues_pos {c : Dev nD} {x : Bool → ℕ × ℕ} {g : GSem nD τ sig} {u : ℕ} (h : 0 < dues c x g u) :
    ∃ b, ((x b).1 ≤ u ∧ u < hops b ∧ g = recvC b (fwd b c) u) ∨ ((x b).2 ≤ u ∧ u + 1 < hops b ∧ g = freeC b (back b c)) := by
  unfold dues at h
  rw [Pi.add_apply, Finsupp.add_apply] at h
  rcases Nat.eq_zero_or_pos (due true c (x true).1 (x true).2 g u) with h0 | h0
  · rw [h0, Nat.zero_add] at h; exact ⟨false, due_pos h⟩
  · exact ⟨true, due_pos h0⟩

/-- What a device owes at launch: the barrier units of both neighbours and everything of both directions. -/
def O₂ (c : Dev nD) : CellTallies nD τ sig ℕ := dues c fun _ => (0, 0)
def O₁ (c : Dev nD) : CellTallies nD τ sig ℕ := O₂ c + tallyAt (barC (fwd true c)) 0 1
def O₀ (c : Dev nD) : CellTallies nD τ sig ℕ := O₁ c + tallyAt (barC (fwd false c)) 0 1

/-! ## Levels -/

def L (g : GSem nD τ sig) : Finset ℕ := if g.1.2 = .tc then Finset.range 8 else ∅

def lvK : Option Kind → ℕ → ℕ
  | some .bar, _ => 1
  | some (.recv _ _), u => 2 * u + 2
  | some (.free _), u => 2 * u + 3
  | some (.send _ _), _ => 0
  | none, _ => 0

/-- Barrier first; then, per hop, the arrival and after it the returned slot; sends and the pipeline's copies at 0. -/
def lv (g : GSem nD τ sig) (u : ℕ) : ℕ := lvK (kindOf g.2) u

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (k : Kind) (c : Dev nD) (u : ℕ) : lv (cell k c) u = lvK (some k) u := by unfold lv; rw [kindOf_semOf]

theorem dues_L {c : Dev nD} {x : Bool → ℕ × ℕ} {g : GSem nD τ sig} {u : ℕ} (h : 0 < dues c x g u) : u ∈ L g := by
  obtain ⟨b, ⟨_, hu, rfl⟩ | ⟨_, hu, rfl⟩⟩ := dues_pos h <;> (rw [L_tc, Finset.mem_range]; have := hops_le b; omega)

theorem dues_lv {c : Dev nD} {x : Bool → ℕ × ℕ} {n : ℕ} (hn : ∀ b, ((x b).1 < hops b → n < 2 * (x b).1 + 2) ∧ ((x b).2 + 1 < hops b → n < 2 * (x b).2 + 3))
    {g : GSem nD τ sig} {u : ℕ} (h : 0 < dues c x g u) : n < lv g u := by
  obtain ⟨b, ⟨h1, hu, rfl⟩ | ⟨h1, hu, rfl⟩⟩ := dues_pos h
  · have := (hn b).1 (by omega)
    show n < lv _ _
    unfold lv
    rw [kindOf_semOf]
    show n < 2 * u + 2
    omega
  · have := (hn b).2 (by omega)
    unfold lv
    rw [kindOf_semOf]
    show n < 2 * u + 3
    omega

omit [FloatOps F] in
/-- A wait at level `n` is allowed while everything still owed lies above `n`. -/
theorem mayWait (k : Kind) (c : Dev nD) (u : ℕ) (x : Bool → ℕ × ℕ) (hu : u < 8)
    (hn : ∀ b, ((x b).1 < hops b → lvK (some k) u < 2 * (x b).1 + 2) ∧ ((x b).2 + 1 < hops b → lvK (some k) u < 2 * (x b).2 + 3)) :
    (levAts L lv : sProp 𝕄) ⊢ MayWait (c : Thread nD τ) (semOf k) u (dues c x) :=
  MayOwe.of_cut (L := L) (lev := lv) (lvK (some k) u)
    (fun p hp => by rw [Finset.mem_singleton.mp hp, L_tc]; exact Finset.mem_range.2 hu)
    (fun g u hg => dues_L hg)
    (fun p hp => by rw [Finset.mem_singleton.mp hp]; exact le_of_eq (lv_cell k c u))
    (fun g u hg => dues_lv hn hg)

theorem O₀_pos {c : Dev nD} {g : GSem nD τ sig} {u : ℕ} (h : 0 < O₀ c g u) :
    (∃ b, g = barC (fwd b c) ∧ u = 0) ∨ 0 < O₂ c g u := by
  unfold O₀ O₁ at h
  rw [Pi.add_apply, Finsupp.add_apply, Pi.add_apply, Finsupp.add_apply] at h
  rcases Nat.eq_zero_or_pos (O₂ c g u) with h0 | h0
  · rcases Nat.eq_zero_or_pos (tallyAt (barC (fwd true c)) 0 1 g u) with h1 | h1
    · rw [h0, h1] at h
      exact .inl ⟨false, tally_pos (by simpa using h)⟩
    · exact .inl ⟨true, tally_pos h1⟩
  · exact .inr h0

omit [FloatOps F] in
/-- The pipeline's own waits are at level 0: allowed at launch and when nothing is owed. -/
theorem mayWait_stage (c : Dev nD) (q : DmaSem sig) (hq : q.val < 6) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_range.2 (by omega))
      (fun g u hg => ?_) (fun p hp => ?_) (fun g u hg => ?_)
    · rcases O₀_pos hg with ⟨b, rfl, rfl⟩ | h
      · rw [L_tc]; exact Finset.mem_range.2 (by omega)
      · exact dues_L h
    · rw [Finset.mem_singleton.mp hp]
      show lvK (kindOf (.dma q)) _ ≤ 0
      have : kindOf (.dma q) = none := if_pos hq
      rw [this]; exact le_refl _
    · rcases O₀_pos hg with ⟨b, rfl, rfl⟩ | h
      · rw [lv_cell]; exact Nat.one_pos
      · exact dues_lv (fun b => ⟨fun _ => by omega, fun _ => by omega⟩) h
  · rw [MayWait_zero]; iintro -; iempintro

end Cert.KernelIdeal.Ring

end
-- ==== Proof.Steps.lean ====
/-
The steps of one hop, each once for every direction and hop: the send, the wait for it, the wait for the arrival, the
return of a slot to the neighbour behind, and the wait for a slot from the neighbour ahead.
-/
module

public import proofs.«01_k».proof.Proof.Proto

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (E : Dev nD → S4x512x1024.Idx → Elt F .bf16) (K : Dev nD × Kind → ℕ)

/-! ## What is shared: every cell's invariant, and the levels -/

@[irreducible] def Shared : sProp 𝕄 := iprop((bigSep Finset.univ fun p : Dev nD × Kind => cellInv ER (Rd E) (K p) (cell p.2 p.1)) ∗ (levAts L lv : sProp 𝕄))

instance Shared_persistent : BI.Persistent (Shared E K) := by unfold Shared; infer_instance

omit [FloatOps F] in
theorem Shared_inv (k : Kind) (c : Dev nD) : Shared E K ⊢ cellInv ER (Rd E) (K (c, k)) (cell k c) := by
  have h : (bigSep Finset.univ fun p : Dev nD × Kind => (cellInv ER (Rd E) (K p) (cell p.2 p.1) : sProp 𝕄)) ⊢ cellInv ER (Rd E) (K (c, k)) (cell k c) :=
    bigSep_elim (Finset.mem_univ (c, k))
  unfold Shared
  iintro ⟨H, -⟩
  iapply h; iexact H
omit [FloatOps F] in
theorem Shared_lev : Shared E K ⊢ (levAts L lv : sProp 𝕄) := by unfold Shared; iintro ⟨-, H⟩; iexact H

/-! ## The state of one direction -/

def sendPos (b : Bool) (c : Dev nD) (h : ℕ) : sProp 𝕄 :=
  iprop((atPos ER (sendC b c h) (h / 2) ∅ 0 ∗ reached ER (sendC b c h) (h / 2))
    ∗ atPos ER (sendC b c (h + 1)) ((h + 1) / 2) ∅ 0 ∗ reached ER (sendC b c (h + 1)) ((h + 1) / 2))
def recvPos (b : Bool) (c : Dev nD) (h : ℕ) : sProp 𝕄 :=
  iprop((atPos ER (recvC b c h) (h / 2) ∅ 0 ∗ reached ER (recvC b c h) (h / 2))
    ∗ atPos ER (recvC b c (h + 1)) ((h + 1) / 2) ∅ 0 ∗ reached ER (recvC b c (h + 1)) ((h + 1) / 2))
def freePos (b : Bool) (c : Dev nD) (h : ℕ) : sProp 𝕄 := iprop(atPos ER (freeC b c) h ∅ 0 ∗ reached ER (freeC b c) h)

/-- The tokens of the sends from hop `h` on. -/
def sendToks (b : Bool) (c : Dev nD) (h : ℕ) : sProp 𝕄 :=
  bigSep (Finset.Ico h (hops b)) fun i => iprop(dutyTok ER (sendC b c i) (i / 2) false ∗ dutyTok ER (recvC b (fwd b c) i) (i / 2) false)
/-- The tokens of the returned slots from hop `h` on. -/
def freeToks (b : Bool) (c : Dev nD) (h : ℕ) : sProp 𝕄 :=
  bigSep (Finset.Ico h (hops b - 1)) fun i => dutyTok ER (freeC b (back b c)) i false
/-- The credit of the arrivals from hop `h` on, and of the slots to come back. -/
def recvCreds (b : Bool) (c : Dev nD) (h : ℕ) : sProp 𝕄 := bigSep (Finset.Ico h (hops b)) fun i => cred (tallyAt (recvC b c i) i N)
def freeCreds (b : Bool) (c : Dev nD) (h : ℕ) : sProp 𝕄 := bigSep (Finset.Ico h (hops b - 1)) fun i => cred (tallyAt (freeC b c) i 1)

omit [FloatOps F] in
theorem peel {a n : ℕ} (h : a < n) (Φ : ℕ → sProp 𝕄) : bigSep (Finset.Ico a n) Φ = iprop(Φ a ∗ bigSep (Finset.Ico (a + 1) n) Φ) := by
  rw [Ico_peel h, bigSep_insert (notMem_Ico_succ a n)]; rfl

omit [FloatOps F] in
/-- The next hop's two send (receive) cells are this hop's, exchanged. -/
theorem sendC_add_two (b : Bool) (c : Dev nD) (h : ℕ) : sendC b c (h + 1 + 1) = sendC b c h := by unfold sendC; rw [par_add_two]
omit [FloatOps F] in
theorem recvC_add_two (b : Bool) (c : Dev nD) (h : ℕ) : recvC b c (h + 1 + 1) = recvC b c h := by
  show cell (.recv b (par (h + 1 + 2))) c = _; rw [par_add_two]
theorem half_add_two (h : ℕ) : (h + 1 + 1) / 2 = h / 2 + 1 := by omega

/-- Before hop `h`'s send: the slot to send, the target, the positions, tokens and credit. -/
def Ready (b : Bool) (c : Dev nD) (h : ℕ) : sProp 𝕄 :=
  iprop(slotPts b (par h) c fullShare (holds E b c h) ∗ Tgt b c h ∗ sendPos b c h ∗ recvPos b c h ∗ freePos b c h
    ∗ sendToks b c h ∗ recvCreds b c h ∗ freeToks b c h ∗ freeCreds b c h)

/-- The send of hop `h` under way, but for the half of the slot that stays readable. -/
def Flight (b : Bool) (c : Dev nD) (h : ℕ) : sProp 𝕄 :=
  iprop(cred (tallyAt (sendC b c h) h N) ∗ sendPos b c h ∗ recvPos b c h ∗ freePos b c h
    ∗ sendToks b c (h + 1) ∗ recvCreds b c h ∗ freeToks b c h ∗ freeCreds b c h)

/-- The send of hop `h` completed. -/
def Sent (b : Bool) (c : Dev nD) (h : ℕ) : sProp 𝕄 :=
  iprop(slotPts b (par h) c fullShare (holds E b c h) ∗ sendPos b c (h + 1) ∗ recvPos b c h ∗ freePos b c h
    ∗ sendToks b c (h + 1) ∗ recvCreds b c h ∗ freeToks b c h ∗ freeCreds b c h)

/-- Hop `h`'s arrival received: both slots in hand. -/
def Got (b : Bool) (c : Dev nD) (h : ℕ) : sProp 𝕄 :=
  iprop(slotPts b (par h) c fullShare (holds E b c h) ∗ slotPts b (par (h + 1)) c fullShare (holds E b c (h + 1))
    ∗ reached ER (freeC b (back b c)) h ∗ sendPos b c (h + 1) ∗ recvPos b c (h + 1) ∗ freePos b c h
    ∗ sendToks b c (h + 1) ∗ recvCreds b c (h + 1) ∗ freeToks b c h ∗ freeCreds b c h)

/-- Hop `h`'s slot returned to the neighbour behind. -/
def Freed (b : Bool) (c : Dev nD) (h : ℕ) : sProp 𝕄 :=
  iprop(slotPts b (par (h + 1)) c fullShare (holds E b c (h + 1)) ∗ sendPos b c (h + 1) ∗ recvPos b c (h + 1) ∗ freePos b c h
    ∗ sendToks b c (h + 1) ∗ recvCreds b c (h + 1) ∗ freeToks b c (h + 1) ∗ freeCreds b c h)

/-! ## What is owed -/

/-- The debts as two pairs: next send and next returned slot, per direction. -/
def st (a e a' e' : ℕ) : Bool → ℕ × ℕ
  | true => (a, e)
  | false => (a', e')

/-- Device `c` owes the dues of `x`, whatever it has waited on. -/
def Ow (c : Dev nD) (x : Bool → ℕ × ℕ) : sProp 𝕄 := iprop(∃ W, owes (c : Thread nD τ) (dues c x) W)

theorem dues_send (b : Bool) (c : Dev nD) {x x' : Bool → ℕ × ℕ} {h : ℕ} (hx : (x b).1 = h) (hb : x' b = (h + 1, (x b).2)) (hn : x' (!b) = x (!b))
    (hh : h < hops b) : dues c x = dues c x' + tallyAt (recvC b (fwd b c) h) h N := by
  have e := due_send (b := b) c (x b).2 hh
  cases b <;> simp only [Bool.not_true, Bool.not_false] at hn <;> unfold dues <;> rw [hb, hn, hx, e]
  · rw [add_assoc]
  · rw [add_assoc, add_assoc, add_comm (tallyAt _ _ _)]

theorem dues_free (b : Bool) (c : Dev nD) {x x' : Bool → ℕ × ℕ} {h : ℕ} (hx : (x b).2 = h) (hb : x' b = ((x b).1, h + 1)) (hn : x' (!b) = x (!b))
    (hh : h + 1 < hops b) : dues c x = dues c x' + tallyAt (freeC b (back b c)) h 1 := by
  have e := due_free (b := b) c (x b).1 hh
  cases b <;> simp only [Bool.not_true, Bool.not_false] at hn <;> unfold dues <;> rw [hb, hn, hx, e]
  · rw [add_assoc]
  · rw [add_assoc, add_assoc, add_comm (tallyAt _ _ _)]

/-! ## A transfer's copy -/

omit [FloatOps F] in
theorem slotSet_eq (s : Fin 2) : (slotM true s).view.set = slotSet s := (View.set_reshape _ _).trans (View.set_slice_whole _ _)
omit [FloatOps F] in
theorem slotSet_eq' (s : Fin 2) : (slotM false s).view.set = slotSet s := (View.set_reshape _ _).trans (View.set_slice_whole _ _)

omit [FloatOps F] in
/-- A slot's points-to, as the transfers name its elements. -/
theorem view_true (s : Fin 2) (c : Dev nD) (q) (f : CommBuf (F := F)) :
    ((slotM true s).view.loc (c : Thread nD τ) ↦[(slotM true s).view.set]{q} f : sProp 𝕄) = slotPts true s c q f := by
  show _ = (((c : Thread nD τ).loc cc0_scratch2) ↦[slotSet s]{q} f : sProp 𝕄)
  rw [← slotSet_eq]; rfl
omit [FloatOps F] in
theorem view_false (s : Fin 2) (c : Dev nD) (q) (f : CommBuf (F := F)) :
    ((slotM false s).view.loc (c : Thread nD τ) ↦[(slotM false s).view.set]{q} f : sProp 𝕄) = slotPts false s c q f := by
  show _ = (((c : Thread nD τ).loc cc0_scratch3) ↦[slotSet s]{q} f : sProp 𝕄)
  rw [← slotSet_eq']; rfl

theorem slot_axis (s s' : Fin 2) (j : S1x4x512x1024.Idx) (a : Fin 4) (ha : a ≠ 0) : (slotRect s).emb j a = (slotRect s').emb j a := by
  apply Fin.ext
  rw [Rect.emb_apply, Rect.emb_apply]
  fin_cases a
  · exact absurd rfl ha
  all_goals rfl

omit [FloatOps F] in
theorem copy_true (s s' : Fin 2) (W : S4x512x1024.Idx → Elt F .bf16) (f : CommBuf (F := F)) :
    ∀ i ∈ slotSet s', (slotM true s').view.write (Elt F) f ((slotM true s).view.read (Elt F) (blk W)) Finset.univ i = blk W i := by
  intro i hi
  rw [← slotSet_eq] at hi
  obtain ⟨x, -, rfl⟩ := Finset.mem_map.1 hi
  refine (View.write_emb_of_mem _ _ (Finset.mem_univ x)).trans ?_
  exact blk_congr W (slot_axis s s' _ 1 (by decide)) (slot_axis s s' _ 2 (by decide)) (slot_axis s s' _ 3 (by decide))

omit [FloatOps F] in
theorem copy_false (s s' : Fin 2) (W : S4x512x1024.Idx → Elt F .bf16) (f : CommBuf (F := F)) :
    ∀ i ∈ slotSet s', (slotM false s').view.write (Elt F) f ((slotM false s).view.read (Elt F) (blk W)) Finset.univ i = blk W i := by
  intro i hi
  rw [← slotSet_eq'] at hi
  obtain ⟨x, -, rfl⟩ := Finset.mem_map.1 hi
  refine (View.write_emb_of_mem _ _ (Finset.mem_univ x)).trans ?_
  exact blk_congr W (slot_axis s s' _ 1 (by decide)) (slot_axis s s' _ 2 (by decide)) (slot_axis s s' _ 3 (by decide))

/-! ## The steps -/

omit [FloatOps F] in
theorem amount_true (s : Fin 2) (k : DmaSem sig) : (slotM true s).view.amount (.dma k) = N := rfl
omit [FloatOps F] in
theorem amount_false (s : Fin 2) (k : DmaSem sig) : (slotM false s).view.amount (.dma k) = N := rfl

/-- The transfer of hop `h` in direction `b`, its resources spelled out. -/
theorem wp_hop (b : Bool) (c n : Dev nD) (h : ℕ) (hn : n = fwd b c) (hh : h < hops b)
    {src : Memref sig .tc .vmem S4x512x1024 .bf16} (hsrc' : src = slotM b (par h))
    {dst : Memref sig .tc .vmem S4x512x1024 .bf16} (hdst' : dst = slotM b (par (h + 1)))
    {sS sR : SemLoc sig} (hsS : sS = semOf (.send b (par h))) (hsR : sR = semOf (.recv b (par (h + 1))))
    {hsc : (dst : Memref sig (Dev.tc n : Thread nD τ).2.kind .vmem S4x512x1024 .bf16).view.ref.isScScratch = false}
    {hsrc : src.view.WordExact} {hdst : dst.view.WordExact}
    {hsem : DmaTarget.Typed .vmem sR (.remote (Dev.tc n : Thread nD τ) (dst : Memref sig (Dev.tc n : Thread nD τ).2.kind .vmem S4x512x1024 .bf16) sS hsc)}
    {α : Type} {Q : α → sProp 𝕄} {k : PUnit → Prog (TpuEff nD τ sig (Elt F) Λ₀ .tc) α}
    {O₀ : CellTallies nD τ sig ℕ} (O : CellTallies nD τ sig ℕ) (hO : O₀ = O + tallyAt (recvC b (fwd b c) h) h N) (W : Waits sig ℕ)
    (f : CommBuf (F := F)) :
    iprop(cellInv ER (Rd E) (K (c, .send b (par h))) (sendC b c h) ∗ cellInv ER (Rd E) (K (fwd b c, .recv b (par (h + 1)))) (recvC b (fwd b c) h)
        ∗ slotPts b (par h) c fullShare.left (holds E b c h) ∗ (slotPts b (par (h + 1)) (fwd b c) fullShare f ∗ reached ER (freeC b c) h)
        ∗ owes (c : Thread nD τ) O₀ W
        ∗ dutyTok ER (sendC b c h) (h / 2) false ∗ reached ER (sendC b c h) (h / 2)
        ∗ dutyTok ER (recvC b (fwd b c) h) (h / 2) false ∗ reached ER (recvC b (fwd b c) h) (h / 2))
      ⊢ iprop(((cred (tallyAt (sendC b c h) h N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hsrc' hdst' hsS hsR
  have hown : holds E b (fwd b c) (h + 1) = holds E b c h := by unfold holds; rw [own_fwd]
  have hp : (Rd E).payload (recvC b (fwd b c) h) (h / 2) false
      = iprop(slotPts b (par (h + 1)) (fwd b c) fullShare (holds E b c h) ∗ reached ER (freeC b c) h) := by
    rw [Rd_payload, payK_recv, hown, back_fwd]
  have hps : (Rd E).payload (sendC b c h) (h / 2) false = slotPts b (par h) c fullShare.left (holds E b c h) := by rw [Rd_payload, payK_send]
  have hds : false ∈ (Rd E).duties (sendC b c h) (h / 2) := by rw [Rd_duties, dutiesK_send hh]; exact Finset.mem_singleton_self _
  have hdr : false ∈ (Rd E).duties (recvC b (fwd b c) h) (h / 2) := by rw [Rd_duties, dutiesK_recv hh]; exact Finset.mem_singleton_self _
  cases b
  · refine BIBase.Entails.trans ?_ (Rounds.wp_send_pointsTo_with (defs := defs₀ (F := F)) (Γ := .empty) 𝒱₀ ER (Rd E) (c : Thread nD τ) none (c' := (fwd false c : Thread nD τ)) (src := slotM false (par h)) (dst := slotM false (par (h + 1)))
      (sS := semOf (.send false (par h))) (sem := semOf (.recv false (par (h + 1)))) (hsc := hsc) (hsrc := hsrc) (hdst := hdst) (hsem := hsem) (k := k) (Q := Q)
      (q := fullShare.left) (fs := holds E false c h) (fd := f) (F := reached ER (freeC false c) h)
      (κ₁ := K (c, .send false (par h))) (κ₂ := K (fwd false c, .recv false (par (h + 1))))
      hds hdr h h N rfl (Rd_amount E _ _ _ _) (Rd_amount E _ _ _ _) O hO (W := W) (Es := Set.univ) ?_ ?_)
    · rw [view_false, view_false]
    · rw [hps, view_false]
    · rw [hp]; exact sep_mono_left (BIBase.Entails.of_eq ((view_false _ _ _ _).trans (slotPts_congr false _ _ _ (copy_false _ _ _ f))))
  · refine BIBase.Entails.trans ?_ (Rounds.wp_send_pointsTo_with (defs := defs₀ (F := F)) (Γ := .empty) 𝒱₀ ER (Rd E) (c : Thread nD τ) none (c' := (fwd true c : Thread nD τ)) (src := slotM true (par h)) (dst := slotM true (par (h + 1)))
      (sS := semOf (.send true (par h))) (sem := semOf (.recv true (par (h + 1)))) (hsc := hsc) (hsrc := hsrc) (hdst := hdst) (hsem := hsem) (k := k) (Q := Q)
      (q := fullShare.left) (fs := holds E true c h) (fd := f) (F := reached ER (freeC true c) h)
      (κ₁ := K (c, .send true (par h))) (κ₂ := K (fwd true c, .recv true (par (h + 1))))
      hds hdr h h N rfl (Rd_amount E _ _ _ _) (Rd_amount E _ _ _ _) O hO (W := W) (Es := Set.univ) ?_ ?_)
    · rw [view_true, view_true]
    · rw [hps, view_true]
    · rw [hp]; exact sep_mono_left (BIBase.Entails.of_eq ((view_true _ _ _ _).trans (slotPts_congr true _ _ _ (copy_true _ _ _ f))))

/-- The send of hop `h`: half of the slot goes with it, half stays readable. -/
theorem step_send (b : Bool) (c n : Dev nD) (h : ℕ) (x x' : Bool → ℕ × ℕ) (hn : n = fwd b c) (hh : h < hops b)
    (hx : (x b).1 = h) (hb : x' b = (h + 1, (x b).2)) (hnb : x' (!b) = x (!b))
    {src : Memref sig .tc .vmem S4x512x1024 .bf16} (hsrc' : src = slotM b (par h))
    {dst : Memref sig .tc .vmem S4x512x1024 .bf16} (hdst' : dst = slotM b (par (h + 1)))
    {sS sR : SemLoc sig} (hsS : sS = semOf (.send b (par h))) (hsR : sR = semOf (.recv b (par (h + 1))))
    {hsc : (dst : Memref sig (Dev.tc n : Thread nD τ).2.kind .vmem S4x512x1024 .bf16).view.ref.isScScratch = false}
    {hsrc : src.view.WordExact} {hdst : dst.view.WordExact}
    {hsem : DmaTarget.Typed .vmem sR (.remote (Dev.tc n : Thread nD τ) (dst : Memref sig (Dev.tc n : Thread nD τ).2.kind .vmem S4x512x1024 .bf16) sS hsc)}
    {α : Type} {Q : α → sProp 𝕄} {k : PUnit → Prog (TpuEff nD τ sig (Elt F) Λ₀ .tc) α} :
    iprop(Shared E K ∗ Ready E b c h ∗ Ow c x)
      ⊢ iprop(((slotPts b (par h) c fullShare.right (holds E b c h) ∗ Flight b c h ∗ Ow c x')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  unfold Ready Tgt Ow sendPos freePos sendToks
  rw [peel hh]
  iintro ⟨#HS, ⟨Hslot, ⟨⟨%f, Hdst⟩, #HrV⟩, ⟨⟨HaS, #HrS⟩, HaS', #HrS'⟩, HrP, ⟨HaF, #HrF⟩, ⟨⟨HtS, HtV⟩, Htoks⟩, HrC, HfT, HfC⟩, %W, HO⟩ Hk
  ihave Hh := (slotPts_halves (F := F) b (par h) c (holds E b c h)).1 $$ Hslot
  icases Hh with ⟨Hl, Hr⟩
  iapply (wp_hop E K b c n h hn hh hsrc' hdst' hsS hsR (dues c x') (dues_send b c hx hb hnb hh) W f) $$ [Hl Hdst HO HtS HtV]
  · isplitr; · iapply (Shared_inv E K (.send b (par h)) c); iexact HS
    isplitr; · iapply (Shared_inv E K (.recv b (par (h + 1))) (fwd b c)); iexact HS
    isplitl [Hl]; · iexact Hl
    isplitl [Hdst]
    · isplitl [Hdst]; · iexact Hdst
      iexact HrF
    isplitl [HO]; · iexact HO
    isplitl [HtS]; · iexact HtS
    isplitr; · iexact HrS
    isplitl [HtV]; · iexact HtV
    iexact HrV
  iintro ⟨Hc, HO⟩
  iapply Hk
  isplitl [Hr]; · iexact Hr
  isplitr [HO]
  · unfold Flight sendPos freePos sendToks
    isplitl [Hc]; · iexact Hc
    isplitl [HaS HaS']
    · isplitl [HaS]
      · isplitl [HaS]; · iexact HaS
        iexact HrS
      isplitl [HaS']; · iexact HaS'
      iexact HrS'
    isplitl [HrP]; · iexact HrP
    isplitl [HaF]
    · isplitl [HaF]; · iexact HaF
      iexact HrF
    isplitl [Htoks]; · iexact Htoks
    isplitl [HrC]; · iexact HrC
    isplitl [HfT] <;> iassumption
  · iexists W; iexact HO

/-- The wait for hop `h`'s own send: the lent half of the slot comes back. -/
theorem step_wait_send (b : Bool) (c : Dev nD) (h : ℕ) (x : Bool → ℕ × ℕ) (hh : h < hops b)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf (.send b (par h))) N Kt)
    {α : Type} {Q : α → sProp 𝕄} {k : PUnit → Prog (TpuEff nD τ sig (Elt F) Λ₀ .tc) α} :
    iprop(Shared E K ∗ slotPts b (par h) c fullShare.right (holds E b c h) ∗ Flight b c h ∗ Ow c x)
      ⊢ iprop(((Sent E b c h ∗ Ow c x) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Flight Ow sendPos
  have h8 : h < 8 := lt_of_lt_of_le hh (hops_le b)
  iintro ⟨#HS, Hr, ⟨Hc, ⟨⟨HaS, #HrS⟩, HaS', #HrS'⟩, Hrest⟩, %W, HO⟩ Hk
  ihave #Hlev := (Shared_lev E K) $$ HS
  iapply (Rounds.wp_wait_rest_token 𝒱₀ ER (Rd E) (c : Thread nD τ) none (κ := K (c, .send b (par h))) hw (Set.mem_univ _) h
      (O := dues c x) (W := W) (R := h / 2) (m := 0) (T := ∅) (by rw [Nat.zero_add, Rd_expect E c (dutiesK_send hh)]; rfl)) $$ [Hc HO HaS]
  · isplitr; · iapply (Shared_inv E K (.send b (par h)) c); iexact HS
    isplitl [Hc]; · iexact Hc
    isplitl [HO]; · iexact HO
    isplitr
    · iapply (mayWait (F := F) (.send b (par h)) c h x h8 (fun b' => ⟨fun _ => by show 0 < _; omega, fun _ => by show 0 < _; omega⟩))
      iexact Hlev
    iexact HaS
  iintro ⟨HO, HaS, #HrSn, Hpay⟩
  ihave Hl := (BIBase.Entails.of_eq ((Rd_rest E c (dutiesK_send hh)).trans (payK_send E b c h false))) $$ Hpay
  ihave Hslot := (slotPts_halves (F := F) b (par h) c (holds E b c h)).2 $$ [Hl Hr]
  · isplitl [Hl] <;> iassumption
  iapply Hk
  isplitr [HO]
  · unfold Sent sendPos
    rw [sendC_add_two, half_add_two]
    isplitl [Hslot]; · iexact Hslot
    isplitl [HaS HaS']
    · isplitl [HaS']
      · isplitl [HaS']; · iexact HaS'
        iexact HrS'
      isplitl [HaS]; · iexact HaS
      iexact HrSn
    iexact Hrest
  · iexists _; iexact HO

/-- The wait for hop `h`'s arrival: the next device's blocks, in the other slot. -/
theorem step_wait_recv (b : Bool) (c : Dev nD) (h : ℕ) (x : Bool → ℕ × ℕ) (hh : h < hops b)
    (hn : ∀ b', ((x b').1 < hops b' → h < (x b').1) ∧ ((x b').2 + 1 < hops b' → h ≤ (x b').2))
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf (.recv b (par (h + 1)))) N Kt)
    {α : Type} {Q : α → sProp 𝕄} {k : PUnit → Prog (TpuEff nD τ sig (Elt F) Λ₀ .tc) α} :
    iprop(Shared E K ∗ Sent E b c h ∗ Ow c x)
      ⊢ iprop(((Got E b c h ∗ Ow c x) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Sent Ow recvPos recvCreds
  rw [peel hh]
  have h8 : h < 8 := lt_of_lt_of_le hh (hops_le b)
  iintro ⟨#HS, ⟨Hslot, HsP, ⟨⟨HaV, #HrV⟩, HaV', #HrV'⟩, HfP, HsT, ⟨Hc, HrC⟩, HfT, HfC⟩, %W, HO⟩ Hk
  ihave #Hlev := (Shared_lev E K) $$ HS
  iapply (Rounds.wp_wait_rest_token 𝒱₀ ER (Rd E) (c : Thread nD τ) none (κ := K (c, .recv b (par (h + 1)))) hw (Set.mem_univ _) h
      (O := dues c x) (W := W) (R := h / 2) (m := 0) (T := ∅) (by rw [Nat.zero_add, Rd_expect E c (dutiesK_recv hh)]; rfl)) $$ [Hc HO HaV]
  · isplitr; · iapply (Shared_inv E K (.recv b (par (h + 1))) c); iexact HS
    isplitl [Hc]; · iexact Hc
    isplitl [HO]; · iexact HO
    isplitr
    · iapply (mayWait (F := F) (.recv b (par (h + 1))) c h x h8 (fun b' => ⟨fun hb => by
        have := (hn b').1 hb; show 2 * h + 2 < _; omega, fun hb => by have := (hn b').2 hb; show 2 * h + 2 < _; omega⟩))
      iexact Hlev
    iexact HaV
  iintro ⟨HO, HaV, #HrVn, Hpay⟩
  ihave Hl := (BIBase.Entails.of_eq ((Rd_rest E c (dutiesK_recv hh)).trans (payK_recv E b c h false))) $$ Hpay
  icases Hl with ⟨Hnew, #HrF⟩
  iapply Hk
  isplitr [HO]
  · unfold Got recvPos recvCreds
    rw [recvC_add_two, half_add_two]
    isplitl [Hslot]; · iexact Hslot
    isplitl [Hnew]; · iexact Hnew
    isplitr; · iexact HrF
    isplitl [HsP]; · iexact HsP
    isplitl [HaV HaV']
    · isplitl [HaV']
      · isplitl [HaV']; · iexact HaV'
        iexact HrV'
      isplitl [HaV]; · iexact HaV
      iexact HrVn
    isplitl [HfP]; · iexact HfP
    isplitl [HsT]; · iexact HsT
    isplitl [HrC]; · iexact HrC
    isplitl [HfT] <;> iassumption
  · iexists _; iexact HO

/-- Hop `h`'s slot returned: the neighbour behind may send into it. -/
theorem step_free (b : Bool) (c n : Dev nD) (h : ℕ) (x x' : Bool → ℕ × ℕ) (hn : n = back b c) (hh : h + 1 < hops b)
    (hx : (x b).2 = h) (hb : x' b = ((x b).1, h + 1)) (hnb : x' (!b) = x (!b))
    {sF : Sem sig} (hsF : SemLoc.reg sF = semOf (.free b))
    {α : Type} {Q : α → sProp 𝕄} {k : PUnit → Prog (TpuEff nD τ sig (Elt F) Λ₀ .tc) α} :
    iprop(Shared E K ∗ Got E b c h ∗ Ow c x)
      ⊢ iprop(((Freed E b c h ∗ Ow c x') -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sF 1) k) Q) := by
  subst hn
  have hcell : (((back b c : Dev nD) : Thread nD τ), SemLoc.reg sF) = freeC b (back b c) := by rw [hsF]
  have hpay : (Rd E).payload (freeC b (back b c)) h false = Tgt b (back b c) (h + 1) := Rd_payload E _ _ _ _
  unfold Got Ow freeToks recvPos
  rw [peel (show h < hops b - 1 by omega)]
  iintro ⟨#HS, ⟨Hslot, Hnew, #HrF, HsP, ⟨⟨HaV, #HrV⟩, HaV', #HrV'⟩, HfP, HsT, HrC, ⟨Ht, HfT⟩, HfC⟩, %W, HO⟩ Hk
  have key := Rounds.wp_signal (defs := defs₀ (F := F)) (Γ := .empty) 𝒱₀ ER (Rd E) (c : Thread nD τ) none (dst := ((back b c : Dev nD) : Thread nD τ)) (sem := sF) (r := h) (κ := K (back b c, .free b))
      (d := false) (k' := 1) (k := k) (Q := Q) (by rw [hcell, Rd_duties, dutiesK_free hh]; exact Finset.mem_singleton_self _)
      (by rw [hcell, Rd_amount]; rfl) h (dues c x') (O₀ := dues c x) (by rw [hcell]; exact dues_free b c hx hb hnb hh) (W := W) (Es := Set.univ)
  rw [hcell, hpay] at key
  iapply key $$ [HO Ht Hslot]
  · isplitr; · iapply (Shared_inv E K (.free b) (back b c)); iexact HS
    isplitl [HO]; · iexact HO
    isplitl [Ht]; · iexact Ht
    isplitl [Hslot]
    · unfold Tgt
      rw [fwd_back, show par (h + 1 + 1) = par h from par_add_two h]
      isplitl [Hslot]; · iexists _; iexact Hslot
      iexact HrV
    iexact HrF
  iintro HO
  iapply Hk
  isplitr [HO]
  · unfold Freed recvPos freeToks
    isplitl [Hnew]; · iexact Hnew
    isplitl [HsP]; · iexact HsP
    isplitl [HaV HaV']
    · isplitl [HaV]
      · isplitl [HaV]; · iexact HaV
        iexact HrV
      isplitl [HaV']; · iexact HaV'
      iexact HrV'
    isplitl [HfP]; · iexact HfP
    isplitl [HsT]; · iexact HsT
    isplitl [HrC]; · iexact HrC
    isplitl [HfT] <;> iassumption
  · iexists W; iexact HO

/-- The wait for a returned slot: the target of hop `h + 1`. -/
theorem step_wait_free (b : Bool) (c : Dev nD) (h : ℕ) (x : Bool → ℕ × ℕ) (hh : h + 1 < hops b)
    (hn : ∀ b', ((x b').1 < hops b' → h < (x b').1) ∧ ((x b').2 + 1 < hops b' → h < (x b').2))
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (semOf (.free b)) 1 Kt)
    {α : Type} {Q : α → sProp 𝕄} {k : PUnit → Prog (TpuEff nD τ sig (Elt F) Λ₀ .tc) α} :
    iprop(Shared E K ∗ Freed E b c h ∗ Ow c x)
      ⊢ iprop(((Ready E b c (h + 1) ∗ Ow c x) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Freed Ow freePos freeCreds
  rw [peel (show h < hops b - 1 by omega)]
  have h8 : h < 8 := by have := hops_le b; omega
  iintro ⟨#HS, ⟨Hslot, HsP, HrP, ⟨HaF, #HrF⟩, HsT, HrC, HfT, Hc, HfC⟩, %W, HO⟩ Hk
  ihave #Hlev := (Shared_lev E K) $$ HS
  iapply (Rounds.wp_wait_rest_token 𝒱₀ ER (Rd E) (c : Thread nD τ) none (κ := K (c, .free b)) hw (Set.mem_univ _) h
      (O := dues c x) (W := W) (R := h) (m := 0) (T := ∅) (by rw [Nat.zero_add, Rd_expect E c (dutiesK_free hh)]; rfl)) $$ [Hc HO HaF]
  · isplitr; · iapply (Shared_inv E K (.free b) c); iexact HS
    isplitl [Hc]; · iexact Hc
    isplitl [HO]; · iexact HO
    isplitr
    · iapply (mayWait (F := F) (.free b) c h x h8 (fun b' => ⟨fun hb => by
        have := (hn b').1 hb; show 2 * h + 3 < _; omega, fun hb => by have := (hn b').2 hb; show 2 * h + 3 < _; omega⟩))
      iexact Hlev
    iexact HaF
  iintro ⟨HO, HaF, #HrFn, Hpay⟩
  ihave Hl := (BIBase.Entails.of_eq ((Rd_rest E c (dutiesK_free hh)).trans (show payK E c (.free b) h false = Tgt b c (h + 1) from rfl))) $$ Hpay
  iapply Hk
  isplitr [HO]
  · unfold Ready freePos freeCreds
    isplitl [Hslot]; · iexact Hslot
    isplitl [Hl]; · iexact Hl
    isplitl [HsP]; · iexact HsP
    isplitl [HrP]; · iexact HrP
    isplitl [HaF]
    · isplitl [HaF]; · iexact HaF
      iexact HrFn
    isplitl [HsT]; · iexact HsT
    isplitl [HrC]; · iexact HrC
    isplitl [HfT] <;> iassumption
  · iexists _; iexact HO

end Cert.KernelIdeal.Ring

end
-- ==== Proof.Tiles.lean ====
/-
The row tiles of the kernel: what one trip of the loops over the eight tiles of 256 rows reads and writes, stated once
for every loop.
-/
module

public import proofs.«01_k».proof.Proof.Steps

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Rows -/

/-- `n` columns of the 2048 rows, and of a tile of 256 of them. -/
abbrev Rows (n : ℕ) : Shape := ⟨2, ![2048, n]⟩
abbrev Tile (n : ℕ) : Shape := ⟨2, ![256, n]⟩

/-- Index `j` of tile `t`, as an index of the 2048 rows. -/
def rowIdx {n : ℕ} (t : Fin 8) (j : (Tile n).Idx) : (Rows n).Idx := fun a => match a with
  | ⟨0, _⟩ => (⟨256 * t.val + (j (0 : Fin 2)).val, by
      have h : (j (0 : Fin 2)).val < 256 := (j (0 : Fin 2)).isLt
      have := t.isLt; show _ < 2048; omega⟩ : Fin 2048)
  | ⟨1, _⟩ => (j (1 : Fin 2) : Fin n)

/-- The tile an index lies in, and its place there. -/
def tileOf {n : ℕ} (i : (Rows n).Idx) : Fin 8 := ⟨(i (0 : Fin 2)).val / 256, by
  have h : (i (0 : Fin 2)).val < 2048 := (i (0 : Fin 2)).isLt
  omega⟩
def inTile {n : ℕ} (i : (Rows n).Idx) : (Tile n).Idx := fun a => match a with
  | ⟨0, _⟩ => (⟨(i (0 : Fin 2)).val % 256, Nat.mod_lt _ (by decide)⟩ : Fin 256)
  | ⟨1, _⟩ => (i (1 : Fin 2) : Fin n)

theorem rowIdx_inTile {n : ℕ} (i : (Rows n).Idx) : rowIdx (tileOf i) (inTile i) = i := by
  funext a
  match a with
  | ⟨0, _⟩ => exact Fin.ext (Nat.div_add_mod _ _)
  | ⟨1, _⟩ => rfl

theorem tileOf_rowIdx {n : ℕ} (t : Fin 8) (j : (Tile n).Idx) : tileOf (rowIdx t j) = t := Fin.ext (by
  have h : (j (0 : Fin 2)).val < 256 := (j (0 : Fin 2)).isLt
  show (256 * t.val + (j (0 : Fin 2)).val) / 256 = t.val
  omega)

theorem inTile_rowIdx {n : ℕ} (t : Fin 8) (j : (Tile n).Idx) : inTile (rowIdx t j) = j := by
  funext a
  match a with
  | ⟨0, _⟩ =>
    have h : (j (0 : Fin 2)).val < 256 := (j (0 : Fin 2)).isLt
    exact Fin.ext (by show (256 * t.val + (j (0 : Fin 2)).val) % 256 = (j (0 : Fin 2)).val; omega)
  | ⟨1, _⟩ => rfl

/-- Tile `t` of a buffer of 2048 rows. -/
def rowsAt {α : Type} {n : ℕ} (f : (Rows n).Idx → α) (t : Fin 8) : (Tile n).Idx → α := fun j => f (rowIdx t j)

/-- The buffer whose tile `t` is `g t`. -/
def ofTiles {α : Type} {n : ℕ} (g : Fin 8 → (Tile n).Idx → α) : (Rows n).Idx → α := fun i => g (tileOf i) (inTile i)

theorem rowsAt_ofTiles {α : Type} {n : ℕ} (g : Fin 8 → (Tile n).Idx → α) (t : Fin 8) : rowsAt (ofTiles g) t = g t := by
  funext j; unfold rowsAt ofTiles; rw [tileOf_rowIdx, inTile_rowIdx]

/-- The first `k` tiles of `f`, the others of `g`. -/
def mix {α : Type} {n : ℕ} (k : ℕ) (f g : (Rows n).Idx → α) : (Rows n).Idx → α := fun i => if (tileOf i).val < k then f i else g i

theorem mix_zero {α : Type} {n : ℕ} (f g : (Rows n).Idx → α) : mix 0 f g = g := rfl
theorem mix_eight {α : Type} {n : ℕ} (f g : (Rows n).Idx → α) : mix 8 f g = f := by
  funext i; exact if_pos (tileOf i).isLt
theorem rowsAt_mix {α : Type} {n : ℕ} (f g : (Rows n).Idx → α) (t : Fin 8) : rowsAt (mix t.val f g) t = rowsAt g t := by
  funext j; unfold rowsAt mix; rw [tileOf_rowIdx, if_neg (Nat.lt_irrefl _)]

/-- The rectangle of tile `t`. -/
theorem emb_rows {n : ℕ} (t : Fin 8) {o : Fin 2 → ℕ} (ho : o = ![256 * t.val, 0]) (inb) (j : (Tile n).Idx) :
    (Rect.unit (s := Rows n) o (Tile n).size inb).emb j = rowIdx t j := by
  subst ho
  funext a
  match a with
  | ⟨0, _⟩ => exact Fin.ext (by show 256 * t.val + 1 * (j (0 : Fin 2)).val = _; rw [Nat.one_mul]; rfl)
  | ⟨1, _⟩ => exact Fin.ext (by show 0 + 1 * (j (1 : Fin 2)).val = _; rw [Nat.one_mul, Nat.zero_add]; rfl)

theorem mem_rows {n : ℕ} (t : Fin 8) {o : Fin 2 → ℕ} (ho : o = ![256 * t.val, 0]) (inb) (i : (Rows n).Idx) :
    i ∈ (Rect.unit (s := Rows n) o (Tile n).size inb).set ↔ tileOf i = t := by
  rw [← Rect.map_emb_univ, Finset.mem_map]
  constructor
  · rintro ⟨j, -, rfl⟩; rw [emb_rows t ho, tileOf_rowIdx]
  · rintro rfl; exact ⟨inTile i, Finset.mem_univ _, by rw [emb_rows _ ho, rowIdx_inTile]⟩

/-! ## The buffers of the loops -/

abbrev xM : Memref sig .tc .vmem S2048x512 .bf16 := Memref.whole cc0_stg0_0
abbrev rM : Memref sig .tc .vmem S512x64 .bf16 := Memref.whole cc0_stg1_0
abbrev iM : Memref sig .tc .vmem S2048x1 .i32 := Memref.whole cc0_stg2_0
abbrev eM : Memref sig .tc .vmem S4x512x1024 .bf16 := Memref.whole cc0_stg3_0
abbrev sM : Memref sig .tc .vmem S512x1024 .bf16 := Memref.whole cc0_stg4_0
abbrev oM : Memref sig .tc .vmem S2048x1024 .f32 := Memref.whole cc0_stg5_0
abbrev xsM : Memref sig .tc .vmem S2048x512 .bf16 := Memref.whole cc0_scratch0
abbrev swM : Memref sig .tc .vmem S512x1024 .bf16 := Memref.whole cc0_scratch1

/-- The scaled rows' buffer, the shared expert's, the indices', the rows' and the result's, at device `c`. -/
def xsPts (c : Dev nD) (f : (Rows 512).Idx → Elt F .bf16) : sProp 𝕄 := ((c : Thread nD τ).loc cc0_scratch0) ↦{fullShare} f
def swPts (c : Dev nD) (f : S512x1024.Idx → Elt F .bf16) : sProp 𝕄 := ((c : Thread nD τ).loc cc0_scratch1) ↦{fullShare} f
def xPts (c : Dev nD) (f : (Rows 512).Idx → Elt F .bf16) : sProp 𝕄 := ((c : Thread nD τ).loc cc0_stg0_0) ↦{fullShare} f
def rPts (c : Dev nD) (f : S512x64.Idx → Elt F .bf16) : sProp 𝕄 := ((c : Thread nD τ).loc cc0_stg1_0) ↦{fullShare} f
def iPts (c : Dev nD) (f : (Rows 1).Idx → Elt F .i32) : sProp 𝕄 := ((c : Thread nD τ).loc cc0_stg2_0) ↦{fullShare} f
def ePts (c : Dev nD) (f : S4x512x1024.Idx → Elt F .bf16) : sProp 𝕄 := ((c : Thread nD τ).loc cc0_stg3_0) ↦{fullShare} f
def sPts (c : Dev nD) (f : S512x1024.Idx → Elt F .bf16) : sProp 𝕄 := ((c : Thread nD τ).loc cc0_stg4_0) ↦{fullShare} f
def oPts (c : Dev nD) (f : (Rows 1024).Idx → Elt F .f32) : sProp 𝕄 := ((c : Thread nD τ).loc cc0_stg5_0) ↦{fullShare} f

omit [FloatOps F] in
/-- A store of tile `t` into the result advances the mixture by that tile. -/
theorem write_o (t : Fin 8) {o : Fin 2 → ℕ} (ho : o = ![256 * t.val, 0]) (inb) (f g : (Rows 1024).Idx → Elt F .f32) (w : (Tile 1024).Idx → Elt F .f32)
    (hw : w = rowsAt f t) :
    (oM.access (Rect.unit (s := S2048x1024) o S256x1024.size inb) : View sig .tc _ _ _).write (Elt F) (mix t.val f g) w Finset.univ = mix (t.val + 1) f g := by
  funext i
  by_cases h : tileOf (n := 1024) i = t
  · have hi : i = (oM.access (Rect.unit (s := S2048x1024) o S256x1024.size inb) : View sig .tc _ _ _).emb (inTile (n := 1024) i) := by
      refine ((emb_rows t ho inb (inTile i)).trans ?_).symm; rw [← h, rowIdx_inTile]
    refine Eq.trans (congrArg _ hi) ((View.write_emb_of_mem _ _ (Finset.mem_univ _)).trans ?_)
    show w (inTile i) = mix (t.val + 1) f g i
    have h2 : mix (t.val + 1) f g i = f i := if_pos (by rw [h]; exact Nat.lt_succ_self _)
    rw [h2, hw]; unfold rowsAt; rw [← h, rowIdx_inTile]
  · rw [View.write_of_not_mem _ _ _ (by
      intro hm; apply h; rw [View.setOn_univ, View.set_slice_whole] at hm; exact (mem_rows t ho inb i).mp hm)]
    unfold mix
    by_cases h1 : (tileOf (n := 1024) i).val < t.val
    · rw [if_pos h1, if_pos (by omega)]
    · rw [if_neg h1, if_neg (fun h3 => h (Fin.ext (by omega)))]

omit [FloatOps F] in
/-- And into the scaled rows. -/
theorem write_xs (t : Fin 8) {o : Fin 2 → ℕ} (ho : o = ![256 * t.val, 0]) (inb) (f g : (Rows 512).Idx → Elt F .bf16) (w : (Tile 512).Idx → Elt F .bf16)
    (hw : w = rowsAt f t) :
    (xsM.access (Rect.unit (s := S2048x512) o S256x512.size inb) : View sig .tc _ _ _).write (Elt F) (mix t.val f g) w Finset.univ = mix (t.val + 1) f g := by
  funext i
  by_cases h : tileOf (n := 512) i = t
  · have hi : i = (xsM.access (Rect.unit (s := S2048x512) o S256x512.size inb) : View sig .tc _ _ _).emb (inTile (n := 512) i) := by
      refine ((emb_rows t ho inb (inTile i)).trans ?_).symm; rw [← h, rowIdx_inTile]
    refine Eq.trans (congrArg _ hi) ((View.write_emb_of_mem _ _ (Finset.mem_univ _)).trans ?_)
    show w (inTile i) = mix (t.val + 1) f g i
    have h2 : mix (t.val + 1) f g i = f i := if_pos (by rw [h]; exact Nat.lt_succ_self _)
    rw [h2, hw]; unfold rowsAt; rw [← h, rowIdx_inTile]
  · rw [View.write_of_not_mem _ _ _ (by
      intro hm; apply h; rw [View.setOn_univ, View.set_slice_whole] at hm; exact (mem_rows t ho inb i).mp hm)]
    unfold mix
    by_cases h1 : (tileOf (n := 512) i).val < t.val
    · rw [if_pos h1, if_pos (by omega)]
    · rw [if_neg h1, if_neg (fun h3 => h (Fin.ext (by omega)))]

/-- One expert's block of the four `W`, in the shape a load from a communication buffer has. -/
def expBlk (W : S4x512x1024.Idx → Elt F .bf16) (k : Fin 4) : S1x1x512x1024.Idx → Elt F .bf16 :=
  fun j => W (fun a => match a with | ⟨0, _⟩ => k | ⟨1, _⟩ => j (2 : Fin 4) | ⟨2, _⟩ => j (3 : Fin 4))

omit [FloatOps F] in
theorem read_block (W : S4x512x1024.Idx → Elt F .bf16) (s : Fin 2) (k : Fin 4) {o : Fin 4 → ℕ} (ho : o = ![s.val, k.val, 0, 0]) (inb) :
    (fun j => blk W ((Rect.unit (s := S2x4x512x1024) o S1x1x512x1024.size inb).emb j)) = expBlk W k := by
  subst ho
  funext j
  unfold blk expBlk
  have h1 : (j (1 : Fin 4)).val < 1 := (j (1 : Fin 4)).isLt
  congr 1
  funext a
  match a with
  | ⟨0, _⟩ => exact Fin.ext (by show k.val + 1 * (j (1 : Fin 4)).val = k.val; omega)
  | ⟨1, _⟩ => exact Fin.ext (by show 0 + 1 * (j (2 : Fin 4)).val = (j (2 : Fin 4)).val; omega)
  | ⟨2, _⟩ => exact Fin.ext (by show 0 + 1 * (j (3 : Fin 4)).val = (j (3 : Fin 4)).val; omega)

theorem block_sub (s : Fin 2) {k : ℕ} {o : Fin 4 → ℕ} (ho : o = ![s.val, k, 0, 0]) (inb) :
    (Rect.unit (s := S2x4x512x1024) o S1x1x512x1024.size inb).set ⊆ slotSet s := by
  subst ho
  intro i hi
  rw [mem_slotSet]
  have := (Rect.mem_set_unit.mp hi) (0 : Fin 4)
  have h1 : s.val ≤ (i (0 : Fin 4)).val := this.1
  have h2 : (i (0 : Fin 4)).val < s.val + 1 := this.2
  omega

/-- A load of block `k` of a slot, at any share of the slot. -/
theorem wp_load_block (b : Bool) (s : Fin 2) (c : Dev nD) (q : PosShare TreeShare) (W : S4x512x1024.Idx → Elt F .bf16) (j : Fin 4)
    {o : Fin 4 → ℕ} (ho : o = ![s.val, j.val, 0, 0]) {inb} {hl : (commM b).view.LoadsAt (Rect.unit (s := S2x4x512x1024) o S1x1x512x1024.size inb).toLoadRect}
    {α : Type} {Q : α → sProp 𝕄} {k : (S1x1x512x1024.Idx → Elt F .bf16) → Prog (TpuEff nD τ sig (Elt F) Λ₀ .tc) α} :
    (slotPts b s c q (blk W) : sProp 𝕄)
      ⊢ iprop((slotPts b s c q (blk W) -∗ wp frame (wpE (defs₀ (F := F)) 𝒱₀ (c : Thread nD τ) none) Set.univ (k (expBlk W j)) Q)
          -∗ wp frame (wpE (defs₀ (F := F)) 𝒱₀ (c : Thread nD τ) none) Set.univ
              (.op (.load (commM b) (Rect.unit (s := S2x4x512x1024) o S1x1x512x1024.size inb).toLoadRect hl) k) Q) := by
  have e : (fun j => blk W ((Rect.unit (s := S2x4x512x1024) o S1x1x512x1024.size inb).emb j)) = expBlk W j := read_block W s j ho inb
  cases b
  · have h := wp_load_rect (defs := defs₀ (F := F)) 𝒱₀ (c : Thread nD τ) none (Γ := .empty) Set.univ (m := (Memref.whole cc0_scratch3 : Memref sig .tc .vmem S2x4x512x1024 .bf16))
      (r := Rect.unit (s := S2x4x512x1024) o S1x1x512x1024.size inb) (hl := hl) (k := k) (Q := Q) (S := slotSet s) (q := q) (f := blk W)
      (by rw [View.set_slice_whole]; exact block_sub s ho _)
    rw [← e]; exact h
  · have h := wp_load_rect (defs := defs₀ (F := F)) 𝒱₀ (c : Thread nD τ) none (Γ := .empty) Set.univ (m := (Memref.whole cc0_scratch2 : Memref sig .tc .vmem S2x4x512x1024 .bf16))
      (r := Rect.unit (s := S2x4x512x1024) o S1x1x512x1024.size inb) (hl := hl) (k := k) (Q := Q) (S := slotSet s) (q := q) (f := blk W)
      (by rw [View.set_slice_whole]; exact block_sub s ho _)
    rw [← e]; exact h

/-- What a trip of a process loop stores into the result's tile: the tile's sum so far, plus for each of the four
    experts of the device `o` the product of the rows routed to it with the expert's block. -/
def payT (o : BitVec 32) (x : Vec F S256x512 .bf16) (i : Vec F S256x1 .i32) (a : Vec F S256x1024 .f32) (b0 b1 b2 b3 : Vec F S1x1x512x1024 .bf16) :
    FVec F S256x1024 .f32 := k0_pay67 o x (k0_pay2 i) (k0_pay3 o x i a b0 b1) (k0_pay4 o i) b2 b3

/-- The result after a process loop. -/
def accum (o : BitVec 32) (X : (Rows 512).Idx → Elt F .bf16) (I : (Rows 1).Idx → Elt F .i32) (W : S4x512x1024.Idx → Elt F .bf16)
    (A : (Rows 1024).Idx → Elt F .f32) : (Rows 1024).Idx → Elt F .f32 :=
  ofTiles fun t => payT o (rowsAt X t) (rowsAt I t) (rowsAt A t) (expBlk W 0) (expBlk W 1) (expBlk W 2) (expBlk W 3)

/-- One trip of a process loop. -/
def tileProg (m : Memref sig .tc .vmem S2x4x512x1024 .bf16) (o : BitVec 32) (o1 o2 o3 : Fin 2 → ℕ) (s : Fin 2)
    (h1 : ∀ a : Fin S2048x512.rank, o1 a + S256x512.size a ≤ S2048x512.size a)
    (h2 : ∀ a : Fin S2048x1.rank, o2 a + S256x1.size a ≤ S2048x1.size a)
    (h3 : ∀ a : Fin S2048x1024.rank, o3 a + S256x1024.size a ≤ S2048x1024.size a)
    (g0 : ∀ a : Fin S2x4x512x1024.rank, (![s.val, 0, 0, 0] : Fin 4 → ℕ) a + S1x1x512x1024.size a ≤ S2x4x512x1024.size a)
    (g1 : ∀ a : Fin S2x4x512x1024.rank, (![s.val, 1, 0, 0] : Fin 4 → ℕ) a + S1x1x512x1024.size a ≤ S2x4x512x1024.size a)
    (g2 : ∀ a : Fin S2x4x512x1024.rank, (![s.val, 2, 0, 0] : Fin 4 → ℕ) a + S1x1x512x1024.size a ≤ S2x4x512x1024.size a)
    (g3 : ∀ a : Fin S2x4x512x1024.rank, (![s.val, 3, 0, 0] : Fin 4 → ℕ) a + S1x1x512x1024.size a ≤ S2x4x512x1024.size a)
    (l1 : xsM.view.LoadsAt (Rect.unit (s := S2048x512) o1 S256x512.size h1).toLoadRect)
    (l2 : iM.view.LoadsAt (Rect.unit (s := S2048x1) o2 S256x1.size h2).toLoadRect)
    (l3 : oM.view.LoadsAt (Rect.unit (s := S2048x1024) o3 S256x1024.size h3).toLoadRect)
    (d0 : m.view.LoadsAt (Rect.unit (s := S2x4x512x1024) ![s.val, 0, 0, 0] S1x1x512x1024.size g0).toLoadRect)
    (d1 : m.view.LoadsAt (Rect.unit (s := S2x4x512x1024) ![s.val, 1, 0, 0] S1x1x512x1024.size g1).toLoadRect)
    (d2 : m.view.LoadsAt (Rect.unit (s := S2x4x512x1024) ![s.val, 2, 0, 0] S1x1x512x1024.size g2).toLoadRect)
    (d3 : m.view.LoadsAt (Rect.unit (s := S2x4x512x1024) ![s.val, 3, 0, 0] S1x1x512x1024.size g3).toLoadRect)
    (st : (oM.access (Rect.unit (s := S2048x1024) o3 S256x1024.size h3)).Stores Finset.univ)
    (hm : (Finset.univ : Finset (Rect.unit (s := S2048x1024) o3 S256x1024.size h3).shape.Idx) = Finset.univ ∨ ∀ a : Fin S2048x1024.rank, (Rect.unit (s := S2048x1024) o3 S256x1024.size h3).stride a = 1) :
    Prog (TpuEff nD τ sig (Elt F) Λ₀ .tc) Unit := do
  let x : Vec F S256x512 .bf16 ← Prog.lift (.load xsM (Rect.unit (s := S2048x512) o1 S256x512.size h1).toLoadRect l1)
  let i : Vec F S256x1 .i32 ← Prog.lift (.load iM (Rect.unit (s := S2048x1) o2 S256x1.size h2).toLoadRect l2)
  let a : Vec F S256x1024 .f32 ← Prog.lift (.load oM (Rect.unit (s := S2048x1024) o3 S256x1024.size h3).toLoadRect l3)
  let b0 : Vec F S1x1x512x1024 .bf16 ← Prog.lift (.load m (Rect.unit (s := S2x4x512x1024) ![s.val, 0, 0, 0] S1x1x512x1024.size g0).toLoadRect d0)
  let b1 : Vec F S1x1x512x1024 .bf16 ← Prog.lift (.load m (Rect.unit (s := S2x4x512x1024) ![s.val, 1, 0, 0] S1x1x512x1024.size g1).toLoadRect d1)
  let b2 : Vec F S1x1x512x1024 .bf16 ← Prog.lift (.load m (Rect.unit (s := S2x4x512x1024) ![s.val, 2, 0, 0] S1x1x512x1024.size g2).toLoadRect d2)
  let b3 : Vec F S1x1x512x1024 .bf16 ← Prog.lift (.load m (Rect.unit (s := S2x4x512x1024) ![s.val, 3, 0, 0] S1x1x512x1024.size g3).toLoadRect d3)
  let _ : Vec F S256x1024 .f32 ← Prog.lift (.load oM (Rect.unit (s := S2048x1024) o3 S256x1024.size h3).toLoadRect l3)
  Prog.lift (.store oM (Rect.unit (s := S2048x1024) o3 S256x1024.size h3) (payT o x i a b0 b1 b2 b3) Finset.univ st hm)
  pure ⟨⟩

/-- What a process loop holds before trip `k`: a share of the slot it reads, the rows, the indices, and the result
    with the first `k` tiles done. -/
def TileInv (b : Bool) (s : Fin 2) (c : Dev nD) (q : PosShare TreeShare) (o : BitVec 32) (W : S4x512x1024.Idx → Elt F .bf16)
    (X : (Rows 512).Idx → Elt F .bf16) (I : (Rows 1).Idx → Elt F .i32) (A : (Rows 1024).Idx → Elt F .f32) (k : ℕ) : sProp 𝕄 :=
  iprop(slotPts b s c q (blk W) ∗ xsPts c X ∗ iPts c I ∗ oPts c (mix k (accum o X I W A) A))

set_option maxHeartbeats 800000 in
/-- A trip takes the invariant before it to the invariant after it. -/
theorem tile_step (b : Bool) (s : Fin 2) (c : Dev nD) (q : PosShare TreeShare) (o : BitVec 32) (W : S4x512x1024.Idx → Elt F .bf16)
    (X : (Rows 512).Idx → Elt F .bf16) (I : (Rows 1).Idx → Elt F .i32) (A : (Rows 1024).Idx → Elt F .f32) (t : Fin 8)
    {o1 o2 o3 : Fin 2 → ℕ} (e1 : o1 = ![256 * t.val, 0]) (e2 : o2 = ![256 * t.val, 0]) (e3 : o3 = ![256 * t.val, 0]) {h1 h2 h3 g0 g1 g2 g3 l1 l2 l3 d0 d1 d2 d3 st hm} :
    TileInv b s c q o W X I A t.val
      ⊢ wp frame (wpE (defs₀ (F := F)) 𝒱₀ (c : Thread nD τ) none) Set.univ
          (tileProg (commM b) o o1 o2 o3 s h1 h2 h3 g0 g1 g2 g3 l1 l2 l3 d0 d1 d2 d3 st hm) (fun _ => TileInv b s c q o W X I A (t.val + 1)) := by
  have rx : (xsM.view.readAt (Elt F) (Rect.unit (s := S2048x512) o1 S256x512.size h1).toLoadRect X) = rowsAt X t := by
    funext j; exact congrArg X (emb_rows t e1 h1 j)
  have ri : (iM.view.readAt (Elt F) (Rect.unit (s := S2048x1) o2 S256x1.size h2).toLoadRect I) = rowsAt I t := by
    funext j; exact congrArg I (emb_rows t e2 h2 j)
  have ro : (oM.view.readAt (Elt F) (Rect.unit (s := S2048x1024) o3 S256x1024.size h3).toLoadRect (mix t.val (accum o X I W A) A)) = rowsAt A t := by
    refine Eq.trans ?_ (rowsAt_mix (accum o X I W A) A t); funext j; exact congrArg (mix t.val (accum o X I W A) A) (emb_rows t e3 h3 j)
  unfold tileProg
  simp only [Prog.lift, Prog.bind_op, Prog.bind_ret, Prog.pure_eq_ret]
  unfold TileInv
  unfold xsPts iPts oPts
  iintro ⟨Hs, Hx, Hi, Ho⟩
  iapply (wp_load 𝒱₀ (c : Thread nD τ) none Set.univ (m := xsM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := oM) (Finset.subset_univ _)) $$ Ho; iintro Ho
  iapply (wp_load_block b s c q W 0 rfl) $$ Hs; iintro Hs
  iapply (wp_load_block b s c q W 1 rfl) $$ Hs; iintro Hs
  iapply (wp_load_block b s c q W 2 rfl) $$ Hs; iintro Hs
  iapply (wp_load_block b s c q W 3 rfl) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := Rect.unit (s := S2048x1024) o3 S256x1024.size h3) (Mk := Finset.univ) (Finset.subset_univ _)) $$ Ho; iintro Ho
  rw [wp_ret]; imodintro
  isplitl [Hs]; · iexact Hs
  isplitl [Hx]; · iexact Hx
  isplitl [Hi]; · iexact Hi
  have hw := write_o t e3 h3 (accum o X I W A) A _ (rowsAt_ofTiles (fun t => payT o (rowsAt X t) (rowsAt I t) (rowsAt A t) (expBlk W 0) (expBlk W 1) (expBlk W 2) (expBlk W 3)) t).symm
  rw [← hw]
  rw [rx, ri, ro]
  iexact Ho

/-- A process loop at the head of a program: a loop of eight trips, each of which is `tileProg` at its own tile. -/
theorem wp_tiles (b : Bool) (s : Fin 2) (c : Dev nD) (q : PosShare TreeShare) (o : BitVec 32) (W : S4x512x1024.Idx → Elt F .bf16)
    (X : (Rows 512).Idx → Elt F .bf16) (I : (Rows 1).Idx → Elt F .i32) (A : (Rows 1024).Idx → Elt F .f32)
    (l : Scf.Loop 32) (hl : l.trips = 8) (hok : l.OK) (body : Fin l.trips → Unit → Prog (TpuEff nD τ sig (Elt F) Λ₀ .tc) Unit)
    (hbody : ∀ t u, TileInv b s c q o W X I A t.val
      ⊢ wp frame (wpE (defs₀ (F := F)) 𝒱₀ (c : Thread nD τ) none) Set.univ (body t u) (fun _ => TileInv b s c q o W X I A (t.val + 1)))
    {β : Type} {kk : Unit → Prog (TpuEff nD τ sig (Elt F) Λ₀ .tc) β} {Q : β → sProp 𝕄} :
    iprop(slotPts b s c q (blk W) ∗ xsPts c X ∗ iPts c I ∗ oPts c A)
      ⊢ iprop(((slotPts b s c q (blk W) ∗ xsPts c X ∗ iPts c I ∗ oPts c (accum o X I W A)) -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for l hok ⟨⟩ body >>= kk) Q) := by
  have h := Scf.wp_for_bind frame (wpE (defs₀ (F := F)) 𝒱₀ (c : Thread nD τ) none) Set.univ l.lb l.ub l.st hok ⟨⟩ body
    (fun k _ => TileInv b s c q o W X I A k) hbody (kk := kk) (Q := Q)
  have hl' : Scf.trips l.lb l.ub l.st = 8 := hl
  rw [hl'] at h
  unfold TileInv at h
  rw [mix_zero, mix_eight] at h
  iintro H Hk
  iapply h $$ H
  iintro %u H
  iapply Hk
  iexact H

end Cert.KernelIdeal.Ring

end
-- ==== Proof.Prep.lean ====
/-
What the kernel does before the first hop: it copies its own four expert blocks into slot 0 of both communication
buffers and the shared expert into its buffer, and a loop over the tiles scales the rows by the probability of the
expert chosen for them and multiplies them with the shared expert.
-/
module

public import proofs.«01_k».proof.Proof.Tiles
public import Idealize.ShloMosaic.Lib.Pipeline.Value
public import Idealize.ShloMosaic.Lib.Pointwise.Reshape

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The expert blocks into slot 0 -/

/-- A buffer whose first `k` blocks are those of `W`, in any slot. -/
def blkTo (k : ℕ) (W : S4x512x1024.Idx → Elt F .bf16) (f : CommBuf (F := F)) : CommBuf (F := F) :=
  fun i => if (i (1 : Fin 4)).val < k then blk W i else f i

omit [FloatOps F] in
theorem blkTo_zero (W : S4x512x1024.Idx → Elt F .bf16) (f : CommBuf (F := F)) : blkTo 0 W f = f := rfl
omit [FloatOps F] in
theorem blkTo_four (W : S4x512x1024.Idx → Elt F .bf16) (f : CommBuf (F := F)) : blkTo 4 W f = blk W := by
  funext i
  have h : (i (1 : Fin 4)).val < 4 := (i (1 : Fin 4)).isLt
  exact if_pos h

abbrev comm2 : Memref sig .tc .vmem S2x4x512x1024 .bf16 := Memref.whole cc0_scratch2
abbrev comm3 : Memref sig .tc .vmem S2x4x512x1024 .bf16 := Memref.whole cc0_scratch3

/-- Index `i` of the buffer inside its block. -/
def inBlock (i : S2x4x512x1024.Idx) : S1x1x512x1024.Idx := fun a => match a with
  | ⟨0, _⟩ => (⟨0, Nat.one_pos⟩ : Fin 1)
  | ⟨1, _⟩ => (⟨0, Nat.one_pos⟩ : Fin 1)
  | ⟨2, _⟩ => (i (2 : Fin 4) : Fin 512)
  | ⟨3, _⟩ => (i (3 : Fin 4) : Fin 1024)

theorem emb_block (k : Fin 4) {o : Fin 4 → ℕ} (ho : o = ![0, k.val, 0, 0]) (inb) (i : S2x4x512x1024.Idx) (h0 : (i (0 : Fin 4)).val = 0) (h1 : (i (1 : Fin 4)).val = k.val) :
    (Rect.unit (s := S2x4x512x1024) o S1x1x512x1024.size inb).emb (inBlock i) = i := by
  subst ho
  funext a
  match a with
  | ⟨0, _⟩ => exact Fin.ext (by show 0 + 1 * 0 = (i (0 : Fin 4)).val; omega)
  | ⟨1, _⟩ => exact Fin.ext (by show k.val + 1 * 0 = (i (1 : Fin 4)).val; omega)
  | ⟨2, _⟩ => exact Fin.ext (by show 0 + 1 * (i (2 : Fin 4)).val = (i (2 : Fin 4)).val; omega)
  | ⟨3, _⟩ => exact Fin.ext (by show 0 + 1 * (i (3 : Fin 4)).val = (i (3 : Fin 4)).val; omega)

theorem mem_block (k : Fin 4) {o : Fin 4 → ℕ} (ho : o = ![0, k.val, 0, 0]) (inb) (i : S2x4x512x1024.Idx)
    (h : i ∈ (Rect.unit (s := S2x4x512x1024) o S1x1x512x1024.size inb).set) : (i (0 : Fin 4)).val = 0 ∧ (i (1 : Fin 4)).val = k.val := by
  subst ho
  have h0 := (Rect.mem_set_unit.mp h) (0 : Fin 4)
  have h1 := (Rect.mem_set_unit.mp h) (1 : Fin 4)
  have a0 : (i (0 : Fin 4)).val < 0 + 1 := h0.2
  have a1 : k.val ≤ (i (1 : Fin 4)).val := h1.1
  have a2 : (i (1 : Fin 4)).val < k.val + 1 := h1.2
  omega

omit [FloatOps F] in
/-- Storing block `k` in slot 0 of either buffer. -/
theorem write_block (b : Bool) (k : Fin 4) {o : Fin 4 → ℕ} (ho : o = ![0, k.val, 0, 0]) (inb) (W : S4x512x1024.Idx → Elt F .bf16) (f : CommBuf (F := F))
    (i : S2x4x512x1024.Idx) (hi : i ∈ slotSet 0) :
    match b with
    | true => (comm2.access (Rect.unit (s := S2x4x512x1024) o S1x1x512x1024.size inb) : View sig .tc _ _ _).write (Elt F) (blkTo k.val W f) (expBlk W k) Finset.univ i
      = blkTo (k.val + 1) W f i
    | false => (comm3.access (Rect.unit (s := S2x4x512x1024) o S1x1x512x1024.size inb) : View sig .tc _ _ _).write (Elt F) (blkTo k.val W f) (expBlk W k) Finset.univ i
      = blkTo (k.val + 1) W f i := by
  have h0 : (i (0 : Fin 4)).val = 0 := (mem_slotSet 0 i).mp hi
  by_cases h : (i (1 : Fin 4)).val = k.val
  · have hk : i (1 : Fin 4) = k := Fin.ext h
    have hv : expBlk W k (inBlock i) = blkTo (k.val + 1) W f i := by
      rw [show blkTo (k.val + 1) W f i = blk W i from if_pos (by omega)]
      unfold expBlk blk; rw [hk]; rfl
    cases b
    · have he : i = (comm3.access (Rect.unit (s := S2x4x512x1024) o S1x1x512x1024.size inb) : View sig .tc _ _ _).emb (inBlock i) := (emb_block k ho inb i h0 h).symm
      exact (congrArg _ he).trans ((View.write_emb_of_mem _ _ (Finset.mem_univ _)).trans hv)
    · have he : i = (comm2.access (Rect.unit (s := S2x4x512x1024) o S1x1x512x1024.size inb) : View sig .tc _ _ _).emb (inBlock i) := (emb_block k ho inb i h0 h).symm
      exact (congrArg _ he).trans ((View.write_emb_of_mem _ _ (Finset.mem_univ _)).trans hv)
  · have hv : blkTo k.val W f i = blkTo (k.val + 1) W f i := by
      unfold blkTo
      by_cases h1 : (i (1 : Fin 4)).val < k.val
      · rw [if_pos h1, if_pos (by omega)]
      · rw [if_neg h1, if_neg (by omega)]
    cases b <;> exact (View.write_of_not_mem _ _ _ (by
      intro hm; apply h; rw [View.setOn_univ, View.set_slice_whole] at hm; exact (mem_block k ho inb i hm).2)).trans hv

theorem slotPts_true (s : Fin 2) (c : Dev nD) (q : PosShare TreeShare) (f : CommBuf (F := F)) :
    (slotPts true s c q f : sProp 𝕄) = (((c : Thread nD τ).loc cc0_scratch2) ↦[slotSet s]{q} f) := rfl
theorem slotPts_false (s : Fin 2) (c : Dev nD) (q : PosShare TreeShare) (f : CommBuf (F := F)) :
    (slotPts false s c q f : sProp 𝕄) = (((c : Thread nD τ).loc cc0_scratch3) ↦[slotSet s]{q} f) := rfl

/-- A load of block `k` of slot 0 followed by the store of the expert block `k` there, at the full slot. -/
theorem step_block (b : Bool) (c : Dev nD) (k : Fin 4) {o : Fin 4 → ℕ} (ho : o = ![0, k.val, 0, 0]) (W : S4x512x1024.Idx → Elt F .bf16) (f : CommBuf (F := F))
    (w : S1x1x512x1024.Idx → Elt F .bf16) (hw : w = expBlk W k) {inb}
    {hl : (commM b).view.LoadsAt (Rect.unit (s := S2x4x512x1024) o S1x1x512x1024.size inb).toLoadRect}
    {hx : ((commM b).access (Rect.unit (s := S2x4x512x1024) o S1x1x512x1024.size inb)).Stores Finset.univ}
    {hm : (Finset.univ : Finset (Rect.unit (s := S2x4x512x1024) o S1x1x512x1024.size inb).shape.Idx) = Finset.univ ∨ ∀ a : Fin S2x4x512x1024.rank, (Rect.unit (s := S2x4x512x1024) o S1x1x512x1024.size inb).stride a = 1}
    {α : Type} {Q : α → sProp 𝕄} {kk : PUnit → Prog (TpuEff nD τ sig (Elt F) Λ₀ .tc) α} :
    (slotPts b 0 c fullShare (blkTo k.val W f) : sProp 𝕄)
      ⊢ iprop((slotPts b 0 c fullShare (blkTo (k.val + 1) W f) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (commM b) (Rect.unit (s := S2x4x512x1024) o S1x1x512x1024.size inb).toLoadRect hl)
                fun _ => .op (.store (commM b) (Rect.unit (s := S2x4x512x1024) o S1x1x512x1024.size inb) w Finset.univ hx hm) kk) Q) := by
  subst hw
  cases b
  · iintro Hs Hk
    ihave Hs := (BIBase.Entails.of_eq (slotPts_false 0 c fullShare (blkTo k.val W f))) $$ Hs
    iapply (wp_load_rect (defs := defs₀ (F := F)) 𝒱₀ (c : Thread nD τ) none (Γ := .empty) Set.univ (m := comm3)
      (r := Rect.unit (s := S2x4x512x1024) o S1x1x512x1024.size inb) (S := slotSet 0) (f := blkTo k.val W f)
      (by rw [View.set_slice_whole]; exact block_sub 0 ho _)) $$ Hs; iintro Hs
    iapply (wp_store (defs := defs₀ (F := F)) 𝒱₀ (c : Thread nD τ) none (Γ := .empty) Set.univ (m := comm3)
      (r := Rect.unit (s := S2x4x512x1024) o S1x1x512x1024.size inb) (Mk := Finset.univ) (S := slotSet 0) (f := blkTo k.val W f)
      (by rw [View.setOn_univ, View.set_slice_whole]; exact block_sub 0 ho _)) $$ Hs; iintro Hs
    iapply Hk
    iapply (BIBase.Entails.of_eq ((slotPts_false 0 c fullShare _).symm.trans (slotPts_congr false 0 c fullShare (fun i hi => write_block false k ho inb W f i hi))))
    iexact Hs
  · iintro Hs Hk
    ihave Hs := (BIBase.Entails.of_eq (slotPts_true 0 c fullShare (blkTo k.val W f))) $$ Hs
    iapply (wp_load_rect (defs := defs₀ (F := F)) 𝒱₀ (c : Thread nD τ) none (Γ := .empty) Set.univ (m := comm2)
      (r := Rect.unit (s := S2x4x512x1024) o S1x1x512x1024.size inb) (S := slotSet 0) (f := blkTo k.val W f)
      (by rw [View.set_slice_whole]; exact block_sub 0 ho _)) $$ Hs; iintro Hs
    iapply (wp_store (defs := defs₀ (F := F)) 𝒱₀ (c : Thread nD τ) none (Γ := .empty) Set.univ (m := comm2)
      (r := Rect.unit (s := S2x4x512x1024) o S1x1x512x1024.size inb) (Mk := Finset.univ) (S := slotSet 0) (f := blkTo k.val W f)
      (by rw [View.setOn_univ, View.set_slice_whole]; exact block_sub 0 ho _)) $$ Hs; iintro Hs
    iapply Hk
    iapply (BIBase.Entails.of_eq ((slotPts_true 0 c fullShare _).symm.trans (slotPts_congr true 0 c fullShare (fun i hi => write_block true k ho inb W f i hi))))
    iexact Hs

omit [FloatOps F] in
/-- The block loaded from the experts, reshaped for the buffer, is that expert's block. -/
theorem cast_block (W : S4x512x1024.Idx → Elt F .bf16) (k : Fin 4) {o : Fin 3 → ℕ} (ho : o = ![k.val, 0, 0]) (inb) :
    shapeCast S1x1x512x1024 (shapeCast S512x1024 (eM.view.readAt (Elt F) (Rect.unit (s := S4x512x1024) o S1x512x1024.size inb).toLoadRect W)
        shapeCasts_S1x512x1024_S512x1024) shapeCasts_S512x1024_S1x1x512x1024 = expBlk W k := by
  rw [shapeCast_comp]
  subst ho
  funext j
  refine (shapeCast_addUnit_apply (n := 3) ![1, 512, 1024] _ _ j).trans ?_
  have h1 : (j (1 : Fin 4)).val < 1 := (j (1 : Fin 4)).isLt
  refine congrArg W (funext fun a => ?_)
  match a with
  | ⟨0, _⟩ => exact Fin.ext (by show k.val + 1 * (j (1 : Fin 4)).val = k.val; omega)
  | ⟨1, _⟩ => exact Fin.ext (by show 0 + 1 * (j (2 : Fin 4)).val = (j (2 : Fin 4)).val; omega)
  | ⟨2, _⟩ => exact Fin.ext (by show 0 + 1 * (j (3 : Fin 4)).val = (j (3 : Fin 4)).val; omega)

/-! ## The first loop -/

/-- The rows scaled by the probability of their expert. -/
def scaled (X : (Rows 512).Idx → Elt F .bf16) (R : S512x64.Idx → Elt F .bf16) (I : (Rows 1).Idx → Elt F .i32) : (Rows 512).Idx → Elt F .bf16 :=
  ofTiles fun t => k0_pay65 (rowsAt X t) R (rowsAt I t)

/-- The rows times the shared expert. -/
def shared (X : (Rows 512).Idx → Elt F .bf16) (S : S512x1024.Idx → Elt F .bf16) : (Rows 1024).Idx → Elt F .f32 :=
  ofTiles fun t => k0_pay66 (rowsAt X t) S

def PrepInv (c : Dev nD) (X : (Rows 512).Idx → Elt F .bf16) (R : S512x64.Idx → Elt F .bf16) (I : (Rows 1).Idx → Elt F .i32) (S : S512x1024.Idx → Elt F .bf16)
    (f : (Rows 512).Idx → Elt F .bf16) (A : (Rows 1024).Idx → Elt F .f32) (k : ℕ) : sProp 𝕄 :=
  iprop(xPts c X ∗ rPts c R ∗ iPts c I ∗ swPts c S ∗ xsPts c (mix k (scaled X R I) f) ∗ oPts c (mix k (shared X S) A))

theorem zero2 : (![0, 0] : Fin 2 → Nat) = fun _ => 0 := funext fun a => by fin_cases a <;> rfl

set_option maxHeartbeats 800000 in
/-- A trip of the first loop takes its invariant one tile further. -/
theorem prep_step (c : Dev nD) (X : (Rows 512).Idx → Elt F .bf16) (R : S512x64.Idx → Elt F .bf16) (I : (Rows 1).Idx → Elt F .i32) (S : S512x1024.Idx → Elt F .bf16)
    (f : (Rows 512).Idx → Elt F .bf16) (A : (Rows 1024).Idx → Elt F .f32) (d0 : Dev nD) (v5 v7 : BitVec 32) (v46 : FVec F S512x1024 .bf16)
    {h0 h1 h2 h3 h4 h5 h6 h7 h8 h9} (t : Fin k0_t1_loop.trips) (u : Unit) :
    PrepInv c X R I S f A t.val
      ⊢ wp frame (wpE (defs₀ (F := F)) 𝒱₀ (c : Thread nD τ) none) Set.univ
          (k0_t1_body (F := F) xM h0 rM h1 iM h2 eM h3 sM h4 oM h5 xsM h6 swM h7 comm2 h8 comm3 h9
            cc0_scratch4 cc0_scratch5 cc0_scratch6 cc0_scratch7 cc0_scratch8 cc0_scratch9 d0 v5 v7 v46 t u)
          (fun _ => PrepInv c X R I S f A (t.val + 1)) := by
  let t' : Fin 8 := ⟨t.val, Nat.lt_of_lt_of_le t.isLt k0_t1_abs.2.1⟩
  have e1 : k0_off1 t = ![256 * t'.val, 0] := k0_off1_eq t
  have e2 : k0_off2 t = ![256 * t'.val, 0] := k0_off2_eq t
  have e3 : k0_off3 t = ![256 * t'.val, 0] := k0_off3_eq t
  have rx : (xM.view.readAt (Elt F) (Rect.unit (s := S2048x512) (k0_off1 t) S256x512.size (k0_off1_inb t)).toLoadRect X) = rowsAt X t' := by
    funext j; exact congrArg X (emb_rows t' e1 (k0_off1_inb t) j)
  have ri : (iM.view.readAt (Elt F) (Rect.unit (s := S2048x1) (k0_off2 t) S256x1.size (k0_off2_inb t)).toLoadRect I) = rowsAt I t' := by
    funext j; exact congrArg I (emb_rows t' e2 (k0_off2_inb t) j)
  have rr : (rM.view.readAt (Elt F) (Rect.unit (s := S512x64) ![0, 0] S512x64.size inb_S512x64_S512x64_0_0).toLoadRect R) = R :=
    Memref.readAt_unit_zero (Elt F) cc0_stg1_0 zero2 _ R
  have rs : (swM.view.readAt (Elt F) (Rect.unit (s := S512x1024) ![0, 0] S512x1024.size inb_S512x1024_S512x1024_0_0).toLoadRect S) = S :=
    Memref.readAt_unit_zero (Elt F) cc0_scratch1 zero2 _ S
  have ww := write_xs t' e1 (k0_off1_inb t) (scaled X R I) f _ (rowsAt_ofTiles (fun t => k0_pay65 (rowsAt X t) R (rowsAt I t)) t').symm
  have wo := write_o t' e3 (k0_off3_inb t) (shared X S) A _ (rowsAt_ofTiles (fun t => k0_pay66 (rowsAt X t) S) t').symm
  unfold k0_t1_body PrepInv
  simp only [Prog.lift, Prog.bind_op, Prog.bind_ret, Prog.pure_eq_ret]
  unfold xPts rPts iPts swPts xsPts oPts
  iintro ⟨Hx, Hr, Hi, Hsw, Hxs, Ho⟩
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := xsM) (Finset.subset_univ _)) $$ Hxs; iintro Hxs
  iapply (wp_store 𝒱₀ (c : Thread nD τ) none Set.univ (m := xsM) (r := Rect.unit (s := S2048x512) (k0_off1 t) S256x512.size (k0_off1_inb t)) (Mk := Finset.univ) (Finset.subset_univ _)) $$ Hxs; iintro Hxs
  iapply (wp_load 𝒱₀ (c : Thread nD τ) none Set.univ (m := swM) (Finset.subset_univ _)) $$ Hsw; iintro Hsw
  iapply (wp_load 𝒱₀ (c : Thread nD τ) none Set.univ (m := oM) (Finset.subset_univ _)) $$ Ho; iintro Ho
  iapply (wp_store 𝒱₀ (c : Thread nD τ) none Set.univ (m := oM) (r := Rect.unit (s := S2048x1024) (k0_off3 t) S256x1024.size (k0_off3_inb t)) (Mk := Finset.univ) (Finset.subset_univ _)) $$ Ho; iintro Ho
  rw [wp_ret]; imodintro
  isplitl [Hx]; · iexact Hx
  isplitl [Hr]; · iexact Hr
  isplitl [Hi]; · iexact Hi
  isplitl [Hsw]; · iexact Hsw
  have ew : mix (t.val + 1) (scaled X R I) f = _ := ww.symm
  have eo : mix (t.val + 1) (shared X S) A = _ := wo.symm
  rw [ew, eo, rx, ri, rr, rs]
  isplitl [Hxs]; · iexact Hxs
  iexact Ho

theorem trips1 : k0_t1_loop.trips = 8 := by decide +kernel

/-- The first loop at the head of a program. -/
theorem wp_prep (c : Dev nD) (X : (Rows 512).Idx → Elt F .bf16) (R : S512x64.Idx → Elt F .bf16) (I : (Rows 1).Idx → Elt F .i32) (S : S512x1024.Idx → Elt F .bf16)
    (f : (Rows 512).Idx → Elt F .bf16) (A : (Rows 1024).Idx → Elt F .f32) (hok : k0_t1_loop.OK)
    (body : Fin k0_t1_loop.trips → Unit → Prog (TpuEff nD τ sig (Elt F) Λ₀ .tc) Unit)
    (hbody : ∀ t u, PrepInv c X R I S f A t.val
      ⊢ wp frame (wpE (defs₀ (F := F)) 𝒱₀ (c : Thread nD τ) none) Set.univ (body t u) (fun _ => PrepInv c X R I S f A (t.val + 1)))
    {β : Type} {kk : Unit → Prog (TpuEff nD τ sig (Elt F) Λ₀ .tc) β} {Q : β → sProp 𝕄} :
    iprop(xPts c X ∗ rPts c R ∗ iPts c I ∗ swPts c S ∗ xsPts c f ∗ oPts c A)
      ⊢ iprop(((xPts c X ∗ rPts c R ∗ iPts c I ∗ swPts c S ∗ xsPts c (scaled X R I) ∗ oPts c (shared X S))
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for k0_t1_loop hok ⟨⟩ body >>= kk) Q) := by
  have h := Scf.wp_for_bind frame (wpE (defs₀ (F := F)) 𝒱₀ (c : Thread nD τ) none) Set.univ k0_t1_loop.lb k0_t1_loop.ub k0_t1_loop.st hok ⟨⟩ body
    (fun k _ => PrepInv c X R I S f A k) hbody (kk := kk) (Q := Q)
  have hl' : Scf.trips k0_t1_loop.lb k0_t1_loop.ub k0_t1_loop.st = 8 := trips1
  rw [hl'] at h
  unfold PrepInv at h
  rw [mix_zero, mix_zero, mix_eight, mix_eight] at h
  iintro H Hk
  iapply h $$ H
  iintro %u H
  iapply Hk
  iexact H

end Cert.KernelIdeal.Ring

end
-- ==== Proof.Hops.lean ====
/-
A hop of both directions, from the steps: wait for the two slots ahead, send, multiply with the two slots in hand, wait
for the sends and the arrivals, return the two slots.
-/
module

public import proofs.«01_k».proof.Proof.Prep

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (E : Dev nD → S4x512x1024.Idx → Elt F .bf16) (K : Dev nD × Kind → ℕ)

/-- The slot ahead awaited, then the send into it. -/
theorem wp_next (b : Bool) (c n : Dev nD) (h : ℕ) (x x' : Bool → ℕ × ℕ) (hn : n = fwd b c) (hh : h + 1 < hops b)
    (hw0 : ∀ b', ((x b').1 < hops b' → h < (x b').1) ∧ ((x b').2 + 1 < hops b' → h < (x b').2))
    (hx : (x b).1 = h + 1) (hb : x' b = (h + 1 + 1, (x b).2)) (hnb : x' (!b) = x (!b))
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf (.free b)) 1 Kt)
    {src : Memref sig .tc .vmem S4x512x1024 .bf16} (hsrc' : src = slotM b (par (h + 1)))
    {dst : Memref sig .tc .vmem S4x512x1024 .bf16} (hdst' : dst = slotM b (par (h + 1 + 1)))
    {sS sR : SemLoc sig} (hsS : sS = semOf (.send b (par (h + 1)))) (hsR : sR = semOf (.recv b (par (h + 1 + 1))))
    {hsc : (dst : Memref sig (Dev.tc n : Thread nD τ).2.kind .vmem S4x512x1024 .bf16).view.ref.isScScratch = false}
    {hsrc : src.view.WordExact} {hdst : dst.view.WordExact}
    {hsem : DmaTarget.Typed .vmem sR (.remote (Dev.tc n : Thread nD τ) (dst : Memref sig (Dev.tc n : Thread nD τ).2.kind .vmem S4x512x1024 .bf16) sS hsc)}
    {α : Type} {Q : α → sProp 𝕄} {k : PUnit → Prog (TpuEff nD τ sig (Elt F) Λ₀ .tc) α} :
    iprop(Shared E K ∗ Freed E b c h ∗ Ow c x)
      ⊢ iprop(((slotPts b (par (h + 1)) c fullShare.right (holds E b c (h + 1)) ∗ Flight b c (h + 1) ∗ Ow c x')
            -∗ wp frame (wpE (defs₀ (F := F)) 𝒱₀ (c : Thread nD τ) none) Set.univ (k ⟨⟩) Q)
          -∗ wp frame (wpE (defs₀ (F := F)) 𝒱₀ (c : Thread nD τ) none) Set.univ
              (.op w fun _ => .op (.enqueueDma src (.remote (Dev.tc n : Thread nD τ) dst sS hsc) sR hsrc hdst hsem) k) Q) := by
  iintro ⟨#HS, HF, HO⟩ Hk
  iapply (step_wait_free E K b c h x hh hw0 w hw) $$ [HF HO]
  · isplitr; · iexact HS
    isplitl [HF] <;> iassumption
  iintro ⟨HR, HO⟩
  iapply (step_send E K b c n (h + 1) x x' hn hh hx hb hnb hsrc' hdst' hsS hsR) $$ [HR HO]
  · isplitr; · iexact HS
    isplitl [HR] <;> iassumption
  iexact Hk

/-- The own send and the arrival awaited. -/
theorem wp_arrive (b : Bool) (c : Dev nD) (h : ℕ) (x : Bool → ℕ × ℕ) (hh : h < hops b)
    (hn : ∀ b', ((x b').1 < hops b' → h < (x b').1) ∧ ((x b').2 + 1 < hops b' → h ≤ (x b').2))
    {w w' : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf (.send b (par h))) N Kt)
    (hw' : ∀ Kt : PUnit → sProp 𝕄, wpE (defs₀ (F := F)) 𝒱₀ (c : Thread nD τ) none Set.univ w' Kt = waitSpec (c : Thread nD τ) Set.univ (semOf (.recv b (par (h + 1)))) N Kt)
    {α : Type} {Q : α → sProp 𝕄} {k : PUnit → Prog (TpuEff nD τ sig (Elt F) Λ₀ .tc) α} :
    iprop(Shared E K ∗ slotPts b (par h) c fullShare.right (holds E b c h) ∗ Flight b c h ∗ Ow c x)
      ⊢ iprop(((Got E b c h ∗ Ow c x) -∗ wp frame (wpE (defs₀ (F := F)) 𝒱₀ (c : Thread nD τ) none) Set.univ (k ⟨⟩) Q)
          -∗ wp frame (wpE (defs₀ (F := F)) 𝒱₀ (c : Thread nD τ) none) Set.univ (.op w fun _ => .op w' k) Q) := by
  iintro ⟨#HS, Hs, HF, HO⟩ Hk
  iapply (step_wait_send E K b c h x hh w hw) $$ [Hs HF HO]
  · isplitr; · iexact HS
    isplitl [Hs]; · iexact Hs
    isplitl [HF] <;> iassumption
  iintro ⟨HR, HO⟩
  iapply (step_wait_recv E K b c h x hh hn w' hw') $$ [HR HO]
  · isplitr; · iexact HS
    isplitl [HR] <;> iassumption
  iexact Hk

/-- The rows, the indices and the result in hand. -/
def Work (c : Dev nD) (X : (Rows 512).Idx → Elt F .bf16) (I : (Rows 1).Idx → Elt F .i32) (A : (Rows 1024).Idx → Elt F .f32) : sProp 𝕄 :=
  iprop(xsPts c X ∗ iPts c I ∗ oPts c A)

/-- A loop over the tiles with a slot a device holds after `h` hops, at any share of the slot. -/
theorem wp_mult (b : Bool) (c : Dev nD) (h : ℕ) (q : PosShare TreeShare) (o : BitVec 32)
    (X : (Rows 512).Idx → Elt F .bf16) (I : (Rows 1).Idx → Elt F .i32) (A : (Rows 1024).Idx → Elt F .f32)
    {l : Scf.Loop 32} (hl : l.trips = 8) {hok : l.OK} {body : Fin l.trips → Unit → Prog (TpuEff nD τ sig (Elt F) Λ₀ .tc) Unit}
    (hbody : ∀ t u, TileInv b (par h) c q o (E (own b c h)) X I A t.val
      ⊢ wp frame (wpE (defs₀ (F := F)) 𝒱₀ (c : Thread nD τ) none) Set.univ (body t u) (fun _ => TileInv b (par h) c q o (E (own b c h)) X I A (t.val + 1)))
    {β : Type} {kk : Unit → Prog (TpuEff nD τ sig (Elt F) Λ₀ .tc) β} {Q : β → sProp 𝕄} :
    iprop(slotPts b (par h) c q (holds E b c h) ∗ Work c X I A)
      ⊢ iprop(((slotPts b (par h) c q (holds E b c h) ∗ Work c X I (accum o X I (E (own b c h)) A))
            -∗ wp frame (wpE (defs₀ (F := F)) 𝒱₀ (c : Thread nD τ) none) Set.univ (kk ⟨⟩) Q)
          -∗ wp frame (wpE (defs₀ (F := F)) 𝒱₀ (c : Thread nD τ) none) Set.univ (Scf.Loop.for l hok ⟨⟩ body >>= kk) Q) :=
  wp_tiles b (par h) c q o (E (own b c h)) X I A l hl hok body hbody

/-- Both directions' state and the result, after the slots of hop `h` have been returned. -/
def Top (c : Dev nD) (h : ℕ) (X : (Rows 512).Idx → Elt F .bf16) (I : (Rows 1).Idx → Elt F .i32) (A : (Rows 1024).Idx → Elt F .f32) : sProp 𝕄 :=
  iprop(Freed E true c h ∗ Freed E false c h ∗ Ow c (st (h + 1) (h + 1) (h + 1) (h + 1)) ∗ Work c X I A)

/-- And before they are returned: all of hop `h` received. -/
def Have (c : Dev nD) (h : ℕ) (X : (Rows 512).Idx → Elt F .bf16) (I : (Rows 1).Idx → Elt F .i32) (A : (Rows 1024).Idx → Elt F .f32) : sProp 𝕄 :=
  iprop(Got E true c h ∗ Got E false c h ∗ Ow c (st (h + 1) h (h + 1) h) ∗ Work c X I A)

/-- Both slots of a hop returned. -/
theorem wp_return (c n m : Dev nD) (h : ℕ) (X : (Rows 512).Idx → Elt F .bf16) (I : (Rows 1).Idx → Elt F .i32) (A : (Rows 1024).Idx → Elt F .f32)
    (hh : h < 6) (hn : n = back true c) (hm : m = back false c)
    {sF sG : Sem sig} (hsF : SemLoc.reg sF = semOf (.free true)) (hsG : SemLoc.reg sG = semOf (.free false))
    {α : Type} {Q : α → sProp 𝕄} {k : PUnit → Prog (TpuEff nD τ sig (Elt F) Λ₀ .tc) α} :
    iprop(Shared E K ∗ Have E c h X I A)
      ⊢ iprop((Top E c h X I A -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) sF 1) fun _ => .op (.semSignal (m : Thread nD τ) sG 1) k) Q) := by
  unfold Have Top
  iintro ⟨#HS, HR, HL, HO, HW⟩ Hk
  iapply (step_free E K true c n h (st (h + 1) h (h + 1) h) (st (h + 1) (h + 1) (h + 1) h) hn (by show h + 1 < 8; omega) rfl rfl rfl hsF) $$ [HR HO]
  · isplitr; · iexact HS
    isplitl [HR] <;> iassumption
  iintro ⟨HR, HO⟩
  iapply (step_free E K false c m h (st (h + 1) (h + 1) (h + 1) h) (st (h + 1) (h + 1) (h + 1) (h + 1)) hm (by show h + 1 < 7; omega) rfl rfl rfl hsG) $$ [HL HO]
  · isplitr; · iexact HS
    isplitl [HL] <;> iassumption
  iintro ⟨HL, HO⟩
  iapply Hk
  isplitl [HR]; · iexact HR
  isplitl [HL]; · iexact HL
  isplitl [HO] <;> iassumption

set_option maxHeartbeats 1600000 in
/-- A hop of both directions, from the two returned slots of the last to everything received: `c` sends on the blocks of
    its two slots and meanwhile adds to the result what its rows take from them. -/
theorem wp_round (c nr nl : Dev nD) (h : ℕ) (hh : h < 6) (oR oL : BitVec 32)
    (X : (Rows 512).Idx → Elt F .bf16) (I : (Rows 1).Idx → Elt F .i32) (A : (Rows 1024).Idx → Elt F .f32)
    (hnr : nr = fwd true c) (hnl : nl = fwd false c)
    {w1 w2 w3 w4 w5 w6 : TpuEff nD τ sig (Elt F) Λ₀ .tc PUnit}
    (hw1 : ∀ Kt : PUnit → sProp 𝕄, wpE (defs₀ (F := F)) 𝒱₀ (c : Thread nD τ) none Set.univ w1 Kt = waitSpec (c : Thread nD τ) Set.univ (semOf (.free true)) 1 Kt)
    (hw2 : ∀ Kt : PUnit → sProp 𝕄, wpE (defs₀ (F := F)) 𝒱₀ (c : Thread nD τ) none Set.univ w2 Kt = waitSpec (c : Thread nD τ) Set.univ (semOf (.free false)) 1 Kt)
    (hw3 : ∀ Kt : PUnit → sProp 𝕄, wpE (defs₀ (F := F)) 𝒱₀ (c : Thread nD τ) none Set.univ w3 Kt = waitSpec (c : Thread nD τ) Set.univ (semOf (.send true (par (h + 1)))) N Kt)
    (hw4 : ∀ Kt : PUnit → sProp 𝕄, wpE (defs₀ (F := F)) 𝒱₀ (c : Thread nD τ) none Set.univ w4 Kt = waitSpec (c : Thread nD τ) Set.univ (semOf (.recv true (par (h + 1 + 1)))) N Kt)
    (hw5 : ∀ Kt : PUnit → sProp 𝕄, wpE (defs₀ (F := F)) 𝒱₀ (c : Thread nD τ) none Set.univ w5 Kt = waitSpec (c : Thread nD τ) Set.univ (semOf (.send false (par (h + 1)))) N Kt)
    (hw6 : ∀ Kt : PUnit → sProp 𝕄, wpE (defs₀ (F := F)) 𝒱₀ (c : Thread nD τ) none Set.univ w6 Kt = waitSpec (c : Thread nD τ) Set.univ (semOf (.recv false (par (h + 1 + 1)))) N Kt)
    {src : Memref sig .tc .vmem S4x512x1024 .bf16} (hsrc' : src = slotM true (par (h + 1)))
    {dst : Memref sig .tc .vmem S4x512x1024 .bf16} (hdst' : dst = slotM true (par (h + 1 + 1)))
    {sS sR : SemLoc sig} (hsS : sS = semOf (.send true (par (h + 1)))) (hsR : sR = semOf (.recv true (par (h + 1 + 1))))
    {hsc : (dst : Memref sig (Dev.tc nr : Thread nD τ).2.kind .vmem S4x512x1024 .bf16).view.ref.isScScratch = false}
    {hsrc : src.view.WordExact} {hdst : dst.view.WordExact}
    {hsem : DmaTarget.Typed .vmem sR (.remote (Dev.tc nr : Thread nD τ) (dst : Memref sig (Dev.tc nr : Thread nD τ).2.kind .vmem S4x512x1024 .bf16) sS hsc)}
    {srcL : Memref sig .tc .vmem S4x512x1024 .bf16} (hsrcL' : srcL = slotM false (par (h + 1)))
    {dstL : Memref sig .tc .vmem S4x512x1024 .bf16} (hdstL' : dstL = slotM false (par (h + 1 + 1)))
    {tS tR : SemLoc sig} (htS : tS = semOf (.send false (par (h + 1)))) (htR : tR = semOf (.recv false (par (h + 1 + 1))))
    {hscL : (dstL : Memref sig (Dev.tc nl : Thread nD τ).2.kind .vmem S4x512x1024 .bf16).view.ref.isScScratch = false}
    {hsrcL : srcL.view.WordExact} {hdstL : dstL.view.WordExact}
    {hsemL : DmaTarget.Typed .vmem tR (.remote (Dev.tc nl : Thread nD τ) (dstL : Memref sig (Dev.tc nl : Thread nD τ).2.kind .vmem S4x512x1024 .bf16) tS hscL)}
    {lR lL : Scf.Loop 32} (htrR : lR.trips = 8) (htrL : lL.trips = 8) {hokR : lR.OK} {hokL : lL.OK}
    {bodyR : Fin lR.trips → Unit → Prog (TpuEff nD τ sig (Elt F) Λ₀ .tc) Unit}
    {bodyL : Fin lL.trips → Unit → Prog (TpuEff nD τ sig (Elt F) Λ₀ .tc) Unit}
    (hbR : ∀ B t u, TileInv true (par (h + 1)) c fullShare.right oR (E (own true c (h + 1))) X I B t.val
      ⊢ wp frame (wpE (defs₀ (F := F)) 𝒱₀ (c : Thread nD τ) none) Set.univ (bodyR t u)
          (fun _ => TileInv true (par (h + 1)) c fullShare.right oR (E (own true c (h + 1))) X I B (t.val + 1)))
    (hbL : ∀ B t u, TileInv false (par (h + 1)) c fullShare.right oL (E (own false c (h + 1))) X I B t.val
      ⊢ wp frame (wpE (defs₀ (F := F)) 𝒱₀ (c : Thread nD τ) none) Set.univ (bodyL t u)
          (fun _ => TileInv false (par (h + 1)) c fullShare.right oL (E (own false c (h + 1))) X I B (t.val + 1)))
    {α : Type} {Q : α → sProp 𝕄} {k : PUnit → Prog (TpuEff nD τ sig (Elt F) Λ₀ .tc) α} :
    iprop(Shared E K ∗ Top E c h X I A)
      ⊢ iprop((Have E c (h + 1) X I (accum oL X I (E (own false c (h + 1))) (accum oR X I (E (own true c (h + 1))) A))
            -∗ wp frame (wpE (defs₀ (F := F)) 𝒱₀ (c : Thread nD τ) none) Set.univ (k ⟨⟩) Q)
          -∗ wp frame (wpE (defs₀ (F := F)) 𝒱₀ (c : Thread nD τ) none) Set.univ
              (.op w1 fun _ => .op (.enqueueDma src (.remote (Dev.tc nr : Thread nD τ) dst sS hsc) sR hsrc hdst hsem) fun _ =>
                .op w2 fun _ => .op (.enqueueDma srcL (.remote (Dev.tc nl : Thread nD τ) dstL tS hscL) tR hsrcL hdstL hsemL) fun _ =>
                Scf.Loop.for lR hokR ⟨⟩ bodyR >>= fun _ => Scf.Loop.for lL hokL ⟨⟩ bodyL >>= fun _ =>
                .op w3 fun _ => .op w4 fun _ => .op w5 fun _ => .op w6 k) Q) := by
  unfold Top Have
  iintro ⟨#HS, HR, HL, HO, HW⟩ Hk
  iapply (wp_next E K true c nr h (st (h + 1) (h + 1) (h + 1) (h + 1)) (st (h + 2) (h + 1) (h + 1) (h + 1)) hnr (by show h + 1 < 8; omega)
    (fun b' => by cases b' <;> exact ⟨fun _ => Nat.lt_succ_self h, fun _ => Nat.lt_succ_self h⟩) rfl rfl rfl hw1 hsrc' hdst' hsS hsR) $$ [HR HO]
  · isplitr; · iexact HS
    isplitl [HR] <;> iassumption
  iintro ⟨HsR, HR, HO⟩
  iapply (wp_next E K false c nl h (st (h + 2) (h + 1) (h + 1) (h + 1)) (st (h + 2) (h + 1) (h + 2) (h + 1)) hnl (by show h + 1 < 7; omega)
    (fun b' => by cases b' <;> exact ⟨fun _ => by show h < _; simp only [st]; omega, fun _ => Nat.lt_succ_self h⟩) rfl rfl rfl hw2 hsrcL' hdstL' htS htR) $$ [HL HO]
  · isplitr; · iexact HS
    isplitl [HL] <;> iassumption
  iintro ⟨HsL, HL, HO⟩
  iapply (wp_mult E true c (h + 1) fullShare.right oR X I A htrR (hbR A)) $$ [HsR HW]
  · isplitl [HsR] <;> iassumption
  iintro ⟨HsR, HW⟩
  iapply (wp_mult E false c (h + 1) fullShare.right oL X I _ htrL (hbL _)) $$ [HsL HW]
  · isplitl [HsL] <;> iassumption
  iintro ⟨HsL, HW⟩
  iapply (wp_arrive E K true c (h + 1) (st (h + 2) (h + 1) (h + 2) (h + 1)) (by show h + 1 < 8; omega)
    (fun b' => by cases b' <;> exact ⟨fun _ => Nat.lt_succ_self (h + 1), fun _ => Nat.le_refl (h + 1)⟩) hw3 hw4) $$ [HsR HR HO]
  · isplitr; · iexact HS
    isplitl [HsR]; · iexact HsR
    isplitl [HR] <;> iassumption
  iintro ⟨HR, HO⟩
  iapply (wp_arrive E K false c (h + 1) (st (h + 2) (h + 1) (h + 2) (h + 1)) (by show h + 1 < 7; omega)
    (fun b' => by cases b' <;> exact ⟨fun _ => Nat.lt_succ_self (h + 1), fun _ => Nat.le_refl (h + 1)⟩) hw5 hw6) $$ [HsL HL HO]
  · isplitr; · iexact HS
    isplitl [HsL]; · iexact HsL
    isplitl [HL] <;> iassumption
  iintro ⟨HL, HO⟩
  iapply Hk
  isplitl [HR]; · iexact HR
  isplitl [HL]; · iexact HL
  isplitl [HO] <;> iassumption

end Cert.KernelIdeal.Ring

end
-- ==== Proof.Start.lean ====
/-
The exchange at the barrier, what a device starts from and ends with, and the result it computes.
-/
module

public import proofs.«01_k».proof.Proof.Hops

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (E : Dev nD → S4x512x1024.Idx → Elt F .bf16) (K : Dev nD × Kind → ℕ)

/-! ## The result -/

/-- The device's own word, and the words of the devices whose blocks it holds after `h` hops in either direction. -/
def word (c : Dev nD) : BitVec 32 := Scalar.remsi (Scalar.divsi (Dev.word c) 1#32) 16#32
def wordR (c : Dev nD) (h : ℕ) : BitVec 32 := Scalar.remsi (Scalar.addi (Scalar.subi (word c) (BitVec.ofNat 32 h)) 16#32) 16#32
def wordL (c : Dev nD) (h : ℕ) : BitVec 32 := Scalar.remsi (Scalar.addi (word c) (BitVec.ofNat 32 h)) 16#32

variable (c : Dev nD) (X : (Rows 512).Idx → Elt F .bf16) (I : (Rows 1).Idx → Elt F .i32)

/-- The result after the loops of hop `h`, from `A`. -/
def rounds (A : (Rows 1024).Idx → Elt F .f32) : ℕ → (Rows 1024).Idx → Elt F .f32
  | 0 => accum (word c) X I (E (own true c 0)) A
  | h + 1 => accum (wordL c (h + 1)) X I (E (own false c (h + 1))) (accum (wordR c (h + 1)) X I (E (own true c (h + 1))) (rounds A h))

/-- The result at the end. -/
def total (A : (Rows 1024).Idx → Elt F .f32) : (Rows 1024).Idx → Elt F .f32 :=
  accum (wordR c 8) X I (E (own true c 8)) (rounds E c X I A 7)

/-! ## The start -/

/-- A direction's positions, tokens and credit. -/
def Seed (b : Bool) (c : Dev nD) : sProp 𝕄 :=
  iprop(sendPos b c 0 ∗ recvPos b c 0 ∗ freePos b c 0 ∗ sendToks b c 0 ∗ recvCreds b c 0 ∗ freeToks b c 0 ∗ freeCreds b c 0)

/-- What the barrier takes. -/
def Meet (c : Dev nD) : sProp 𝕄 :=
  iprop(atPos ER (barC c) 0 ∅ 0 ∗ cred (tallyAt (barC c) 0 2)
    ∗ (dutyTok ER (barC (fwd false c)) 0 true ∗ reached ER (barC (fwd false c)) 0)
    ∗ dutyTok ER (barC (fwd true c)) 0 false ∗ reached ER (barC (fwd true c)) 0)

omit [FloatOps F] in
theorem Seed_ready (b : Bool) (c : Dev nD) :
    iprop(slotPts b 0 c fullShare (blk (E (own b c 0))) ∗ Tgt b c 0 ∗ Seed b c) ⊢ Ready E b c 0 := BIBase.Entails.refl

omit [FloatOps F] in
theorem Seed_reached (b : Bool) (c : Dev nD) : (Seed b c : sProp 𝕄) ⊢ iprop(Seed b c ∗ reached ER (recvC b c 0) 0) := by
  unfold Seed recvPos
  iintro ⟨H1, ⟨⟨Ha, #Hr⟩, H2⟩, H3⟩
  isplitl
  · isplitl [H1]; · iexact H1
    isplitr [H3]
    · isplitl [Ha]
      · isplitl [Ha]; · iexact Ha
        iexact Hr
      iexact H2
    iexact H3
  iexact Hr

/-- The duty of the barrier that the neighbour ahead in direction `b` pays: its own slot 1 for the first hop. -/
theorem wp_invite (b : Bool) (c n : Dev nD) (hn : n = back b c) (O O' : CellTallies nD τ sig ℕ) (hO : O = O' + tallyAt (barC (back b c)) 0 1)
    {sB : Sem sig} (hsB : SemLoc.reg sB = semOf .bar) (f : CommBuf (F := F)) (W : Waits sig ℕ)
    {α : Type} {Q : α → sProp 𝕄} {k : PUnit → Prog (TpuEff nD τ sig (Elt F) Λ₀ .tc) α} :
    iprop(Shared E K ∗ (dutyTok ER (barC (back b c)) 0 b ∗ reached ER (barC (back b c)) 0)
        ∗ slotPts b (par 1) c fullShare f ∗ reached ER (recvC b c 0) 0 ∗ owes (c : Thread nD τ) O W)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sB 1) k) Q) := by
  subst hn
  have hcell : (((back b c : Dev nD) : Thread nD τ), SemLoc.reg sB) = barC (back b c) := by rw [hsB]
  have hpay : (Rd E).payload (barC (back b c)) 0 b = Tgt b (back b c) 0 := Rd_payload E _ _ _ _
  iintro ⟨#HS, ⟨Ht, #HrB⟩, Hslot, #HrV, HO⟩ Hk
  have key := Rounds.wp_signal (defs := defs₀ (F := F)) (Γ := .empty) 𝒱₀ ER (Rd E) (c : Thread nD τ) none (dst := ((back b c : Dev nD) : Thread nD τ)) (sem := sB) (r := 0) (κ := K (back b c, .bar))
      (d := b) (k' := 1) (k := k) (Q := Q) (by rw [hcell, Rd_duties]; exact Finset.mem_univ _)
      (by rw [hcell, Rd_amount]; rfl) 0 O' (O₀ := O) (by rw [hcell]; exact hO) (W := W) (Es := Set.univ)
  rw [hcell, hpay] at key
  iapply key $$ [HO Ht Hslot]
  · isplitr; · iapply (Shared_inv E K .bar (back b c)); iexact HS
    isplitl [HO]; · iexact HO
    isplitl [Ht]; · iexact Ht
    isplitl [Hslot]
    · unfold Tgt
      rw [fwd_back]
      isplitl [Hslot]; · iexists _; iexact Hslot
      iexact HrV
    iexact HrB
  iexact Hk

/-- The barrier: both neighbours get this device's slots 1, and this device theirs. -/
theorem wp_meet (c nl nr : Dev nD) (hnl : nl = fwd false c) (hnr : nr = fwd true c) {sB sB' : Sem sig} (hsB : SemLoc.reg sB = semOf .bar) (hsB' : SemLoc.reg sB' = semOf .bar)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf .bar) 2 Kt)
    (f g : CommBuf (F := F)) (W : Waits sig ℕ)
    {α : Type} {Q : α → sProp 𝕄} {k : PUnit → Prog (TpuEff nD τ sig (Elt F) Λ₀ .tc) α} :
    iprop(Shared E K ∗ Meet c ∗ (slotPts true (par 1) c fullShare f ∗ reached ER (recvC true c 0) 0)
        ∗ (slotPts false (par 1) c fullShare g ∗ reached ER (recvC false c 0) 0) ∗ owes (c : Thread nD τ) (O₀ c) W)
      ⊢ iprop(((Tgt true c 0 ∗ Tgt false c 0 ∗ atPos ER (barC c) 1 ∅ 0 ∗ Ow c (st 0 0 0 0)) -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (nl : Thread nD τ) sB 1) fun _ => .op (.semSignal (nr : Thread nD τ) sB' 1) fun _ => .op w k) Q) := by
  unfold Meet
  iintro ⟨#HS, ⟨Ha, Hc, ⟨Ht, #Hr⟩, Ht', #Hr'⟩, ⟨Hs, #HrV⟩, ⟨Hs', #HrV'⟩, HO⟩ Hk
  iapply (wp_invite E K true c nl hnl (O₀ c) (O₁ c) rfl hsB f W) $$ [Ht Hs HO]
  · isplitr; · iexact HS
    isplitl [Ht]
    · isplitl [Ht]; · iexact Ht
      iexact Hr
    isplitl [Hs]; · iexact Hs
    isplitr; · iexact HrV
    iexact HO
  iintro HO
  iapply (wp_invite E K false c nr hnr (O₁ c) (O₂ c) rfl hsB' g W) $$ [Ht' Hs' HO]
  · isplitr; · iexact HS
    isplitl [Ht']
    · isplitl [Ht']; · iexact Ht'
      iexact Hr'
    isplitl [Hs']; · iexact Hs'
    isplitr; · iexact HrV'
    iexact HO
  iintro HO
  have hO : O₂ c = dues c (st 0 0 0 0) := rfl
  rw [hO]
  iapply (Rounds.wp_wait_rest_token 𝒱₀ ER (Rd E) (c : Thread nD τ) none (κ := K (c, .bar)) hw (Set.mem_univ _) 0
      (O := dues c (st 0 0 0 0)) (W := W) (R := 0) (m := 0) (T := ∅) (by rw [Nat.zero_add, Rd_expect_bar])) $$ [Hc HO Ha]
  · isplitr; · iapply (Shared_inv E K .bar c); iexact HS
    isplitl [Hc]; · iexact Hc
    isplitl [HO]; · iexact HO
    isplitr
    · iapply (mayWait (F := F) .bar c 0 (st 0 0 0 0) (by omega) (fun b' => by cases b' <;> exact ⟨fun _ => by decide, fun _ => by decide⟩))
      iapply (Shared_lev E K); iexact HS
    iexact Ha
  iintro ⟨HO, Ha, -, Hpay⟩
  ihave Hp := (BIBase.Entails.of_eq (Rd_rest_bar E c)) $$ Hpay
  icases Hp with ⟨H1, H2⟩
  iapply Hk
  isplitl [H1]; · iexact H1
  isplitl [H2]; · iexact H2
  isplitl [Ha]; · iexact Ha
  unfold Ow
  iexists _; iexact HO

/-! ## The end -/

/-- A device's communication buffers, whatever they hold. -/
def Slots (c : Dev nD) : sProp 𝕄 :=
  iprop(((∃ f, slotPts true 0 c fullShare f) ∗ ∃ f, slotPts true 1 c fullShare f) ∗ (∃ f, slotPts false 0 c fullShare f) ∗ ∃ f, slotPts false 1 c fullShare f)

/-- A device's semaphores at zero. -/
def Zeros (c : Dev nD) : sProp 𝕄 := bigSep Finset.univ fun k : Kind => semVal (cell k c) 0

/-- The cells of direction `b` after the last hop. -/
def Last (b : Bool) (c : Dev nD) : sProp 𝕄 :=
  iprop((atPos ER (cell (.send b 0) c) (lastRound (.send b 0)) ∅ 0 ∗ atPos ER (cell (.send b 1) c) (lastRound (.send b 1)) ∅ 0)
    ∗ (atPos ER (cell (.recv b 0) c) (lastRound (.recv b 0)) ∅ 0 ∗ atPos ER (cell (.recv b 1) c) (lastRound (.recv b 1)) ∅ 0)
    ∗ atPos ER (freeC b c) (lastRound (.free b)) ∅ 0)

/-- A cell after its last round is at zero again. -/
theorem close_cell (k : Kind) (c : Dev nD) : iprop(Shared E K ∗ atPos ER (cell k c) (lastRound k) ∅ 0) ⊢ (|={Set.univ}=> semVal (cell k c) 0 : sProp 𝕄) := by
  iintro ⟨#HS, Ha⟩
  iapply (Rounds.cell_close ER (Rd E) (Set.mem_univ (K (c, k))) (fun h => h) (R := lastRound k) (Rd_duties_later E k c))
  isplitr; · iapply (Shared_inv E K k c); iexact HS
  iexact Ha

theorem bigSep_kind (Φ : Kind → sProp 𝕄) : bigSep Finset.univ Φ = iprop(Φ .bar ∗ Φ (.send true 0) ∗ Φ (.send true 1) ∗ Φ (.recv true 0) ∗ Φ (.recv true 1) ∗ Φ (.free true)
    ∗ Φ (.send false 0) ∗ Φ (.send false 1) ∗ Φ (.recv false 0) ∗ Φ (.recv false 1) ∗ Φ (.free false)) :=
  bigSep_univ_eq_bigSepL Kind.all rfl (by decide) Φ

theorem close_all (c : Dev nD) :
    iprop(Shared E K ∗ atPos ER (barC c) (lastRound .bar) ∅ 0 ∗ Last true c ∗ Last false c) ⊢ (|={Set.univ}=> Zeros c : sProp 𝕄) := by
  unfold Last Zeros
  rw [bigSep_kind]
  iintro ⟨#HS, HB, ⟨⟨H1, H2⟩, ⟨H3, H4⟩, H5⟩, ⟨G1, G2⟩, ⟨G3, G4⟩, G5⟩
  imod (close_cell E K .bar c) $$ [HB] with HB
  · isplitr; · iexact HS
    iexact HB
  imod (close_cell E K (.send true 0) c) $$ [H1] with H1
  · isplitr; · iexact HS
    iexact H1
  imod (close_cell E K (.send true 1) c) $$ [H2] with H2
  · isplitr; · iexact HS
    iexact H2
  imod (close_cell E K (.recv true 0) c) $$ [H3] with H3
  · isplitr; · iexact HS
    iexact H3
  imod (close_cell E K (.recv true 1) c) $$ [H4] with H4
  · isplitr; · iexact HS
    iexact H4
  imod (close_cell E K (.free true) c) $$ [H5] with H5
  · isplitr; · iexact HS
    iexact H5
  imod (close_cell E K (.send false 0) c) $$ [G1] with G1
  · isplitr; · iexact HS
    iexact G1
  imod (close_cell E K (.send false 1) c) $$ [G2] with G2
  · isplitr; · iexact HS
    iexact G2
  imod (close_cell E K (.recv false 0) c) $$ [G3] with G3
  · isplitr; · iexact HS
    iexact G3
  imod (close_cell E K (.recv false 1) c) $$ [G4] with G4
  · isplitr; · iexact HS
    iexact G4
  imod (close_cell E K (.free false) c) $$ [G5] with G5
  · isplitr; · iexact HS
    iexact G5
  imodintro
  isplitl [HB]; · iexact HB
  isplitl [H1]; · iexact H1
  isplitl [H2]; · iexact H2
  isplitl [H3]; · iexact H3
  isplitl [H4]; · iexact H4
  isplitl [H5]; · iexact H5
  isplitl [G1]; · iexact G1
  isplitl [G2]; · iexact G2
  isplitl [G3]; · iexact G3
  isplitl [G4]; · iexact G4
  iexact G5

omit [FloatOps F] in
/-- Everything received in the last hops of both directions: the slots, and the cells after their last rounds. -/
theorem finish (c : Dev nD) : iprop(Got E true c 7 ∗ Got E false c 6) ⊢ iprop(Slots c ∗ Last true c ∗ Last false c) := by
  unfold Got sendPos recvPos freePos Slots Last
  iintro ⟨⟨S1, S0, -, ⟨⟨A0, -⟩, A1, -⟩, ⟨⟨B1, -⟩, B0, -⟩, ⟨C, -⟩, -⟩, T0, T1, -, ⟨⟨D1, -⟩, D0, -⟩, ⟨⟨E0, -⟩, E1, -⟩, ⟨G, -⟩, -⟩
  isplitl [S1 S0 T0 T1]
  · isplitl [S1 S0]
    · isplitl [S0]; · iexists _; iexact S0
      iexists _; iexact S1
    isplitl [T0]; · iexists _; iexact T0
    iexists _; iexact T1
  isplitl [A0 A1 B0 B1 C]
  · isplitl [A0 A1]
    · isplitl [A0]; · iexact A0
      iexact A1
    isplitl [B0 B1]
    · isplitl [B0]; · iexact B0
      iexact B1
    iexact C
  isplitl [D0 D1]
  · isplitl [D0]; · iexact D0
    iexact D1
  isplitl [E0 E1]
  · isplitl [E0]; · iexact E0
    iexact E1
  iexact G

end Cert.KernelIdeal.Ring

end
-- ==== Proof.Softmax.lean ====
/-
One row of the mixture on extended reals: its scores, their softmax, the expert's product scaled before or after the sum,
and the sum over the experts that leaves the chosen one.
-/
module

public import Idealize.ShloMosaic.Lib.Pointwise

@[expose] public section

noncomputable section

namespace Cert.Moe

open Idealize.ShloMosaic

/-- A value that is a real number. -/
def IsReal (a : EReal) : Prop := ∃ t : ℝ, a = t

theorem IsReal.add {a b : EReal} : IsReal a → IsReal b → IsReal (a + b)
  | ⟨s, hs⟩, ⟨t, ht⟩ => ⟨s + t, by rw [hs, ht, EReal.coe_add]⟩
theorem IsReal.mul {a b : EReal} : IsReal a → IsReal b → IsReal (a * b)
  | ⟨s, hs⟩, ⟨t, ht⟩ => ⟨s * t, by rw [hs, ht, EReal.coe_mul]⟩
theorem IsReal.sub {a b : EReal} : IsReal a → IsReal b → IsReal (a - b)
  | ⟨s, hs⟩, ⟨t, ht⟩ => ⟨s - t, by rw [hs, ht, EReal.coe_sub]⟩
theorem IsReal.sum {ι : Type} (S : Finset ι) (f : ι → EReal) (h : ∀ i ∈ S, IsReal (f i)) : IsReal (∑ i ∈ S, f i) :=
  Finset.sum_induction f IsReal (fun _ _ => IsReal.add) ⟨0, rfl⟩ h

/-- A value whose absolute value is below infinity is real. -/
theorem isReal_of_abs_lt {a : EReal} (h : max a (-a) < ⊤) : IsReal a := by
  have h1 : a ≠ ⊤ := fun e => by rw [e] at h; exact absurd h (by simp)
  have h2 : a ≠ ⊥ := fun e => by rw [e] at h; exact absurd h (by simp)
  exact ⟨a.toReal, (EReal.coe_toReal h1 h2).symm⟩

/-- The constant that a maximum starts from is the least value. -/
theorem negInf : Ideal.ofBits .f32 0xFF800000#32 = ⊥ := by
  show Ideal.ieee 8 23 0xFF800000#32 = ⊥
  unfold Ideal.ieee
  simp

variable {m n : ℕ}

/-- The greatest of finitely many real scores is real. -/
theorem isReal_max (f : Fin (n + 1) → EReal) (h : ∀ i, IsReal (f i)) :
    IsReal (Finset.fold max (Ideal.ofBits .f32 0xFF800000#32) f Finset.univ) := by
  rw [negInf]
  have h1 : Finset.fold max ⊥ f Finset.univ ≠ ⊤ := by
    refine ne_of_lt ((Finset.fold_max_lt _).mpr ⟨bot_lt_top, fun i _ => ?_⟩)
    obtain ⟨t, ht⟩ := h i
    rw [ht]; exact EReal.coe_lt_top t
  have h2 : Finset.fold max ⊥ f Finset.univ ≠ ⊥ := by
    refine ne_of_gt ((Finset.lt_fold_max _).mpr (Or.inr ⟨0, Finset.mem_univ _, ?_⟩))
    obtain ⟨t, ht⟩ := h 0
    rw [ht]; exact EReal.bot_lt_coe t
  exact ⟨_, (EReal.coe_toReal h1 h2).symm⟩

/-- A row's scores, -/
def score (x : Fin m → EReal) (R : Fin m → Fin n → EReal) (j : Fin n) : EReal := ∑ k, x k * R k j
/-- their exponentials, the greatest score subtracted, -/
def weight (x : Fin m → EReal) (R : Fin m → Fin n → EReal) (j : Fin n) : EReal :=
  Ideal.exp (score x R j - Finset.fold max (Ideal.ofBits .f32 0xFF800000#32) (score x R) Finset.univ)
/-- and their softmax. -/
def prob (x : Fin m → EReal) (R : Fin m → Fin n → EReal) (j : Fin n) : EReal := Ideal.div (weight x R j) (∑ i, weight x R i)

/-- On real rows and a real router every probability is nonnegative and not infinite. -/
theorem prob_range (x : Fin m → EReal) (R : Fin m → Fin (n + 1) → EReal) (hx : ∀ k, IsReal (x k)) (hR : ∀ k j, IsReal (R k j)) (j : Fin (n + 1)) :
    0 ≤ prob x R j ∧ prob x R j ≠ ⊤ := by
  have hs : ∀ j, IsReal (score x R j) := fun j => IsReal.sum _ _ fun k _ => (hx k).mul (hR k j)
  have hw : ∀ j, ∃ t : ℝ, 0 < t ∧ weight x R j = t := fun j => by
    obtain ⟨t, ht⟩ := (hs j).sub (isReal_max (score x R) hs)
    refine ⟨Real.exp t, Real.exp_pos t, ?_⟩
    unfold weight; rw [ht]; rfl
  choose t ht hwt using hw
  have hsum : ∑ i, weight x R i = ((∑ i, t i : ℝ) : EReal) := by
    rw [Finset.sum_congr rfl fun i _ => hwt i]
    induction (Finset.univ : Finset (Fin (n + 1))) using Finset.induction with
    | empty => rfl
    | insert a s ha ih => rw [Finset.sum_insert ha, Finset.sum_insert ha, ih, EReal.coe_add]
  have hpos : 0 < ∑ i, t i := Finset.sum_pos (fun i _ => ht i) ⟨0, Finset.mem_univ _⟩
  have hp : prob x R j = ((t j * (∑ i, t i)⁻¹ : ℝ) : EReal) := by
    unfold prob Ideal.div
    rw [hsum, hwt, if_neg (fun h => hpos.ne' (EReal.coe_eq_zero.mp h)), ← EReal.coe_inv, EReal.coe_mul]
  rw [hp]
  exact ⟨EReal.coe_nonneg.mpr (mul_nonneg (ht j).le (inv_nonneg.mpr hpos.le)), EReal.coe_ne_top _⟩

/-- A nonnegative factor that is not infinite moves out of a sum. -/
theorem mul_sum {ι : Type} (S : Finset ι) (p : EReal) (h0 : 0 ≤ p) (ht : p ≠ ⊤) (f : ι → EReal) : p * ∑ i ∈ S, f i = ∑ i ∈ S, p * f i := by
  classical
  induction S using Finset.induction with
  | empty => rw [Finset.sum_empty, Finset.sum_empty, mul_zero]
  | insert a s ha ih => rw [Finset.sum_insert ha, Finset.sum_insert ha, EReal.left_distrib_of_nonneg_of_ne_top h0 ht, ih]

/-- Scaling the row before the product is scaling the product. -/
theorem scaled_product (p : EReal) (h0 : 0 ≤ p) (ht : p ≠ ⊤) (x w : Fin m → EReal) : ∑ k, x k * p * w k = p * ∑ k, x k * w k := by
  rw [mul_sum _ p h0 ht]
  exact Finset.sum_congr rfl fun k _ => by rw [mul_comm (x k) p, mul_assoc]

/-- Expert `k` of device `d`. -/
def expert (d : Fin 16) (k : Fin 4) : Fin 64 := ⟨4 * d.val + k.val, by have := d.isLt; have := k.isLt; omega⟩

/-- Of the terms of all devices' experts, those that test a word for their expert leave the word's expert. -/
theorem sum_experts (e : BitVec 32) (Y : Fin 64 → EReal) (j : Fin 64) (hj : e = BitVec.ofNat 32 j.val) :
    ∑ d : Fin 16, ∑ k : Fin 4, (if e = BitVec.ofNat 32 (expert d k).val then Y (expert d k) else 0) = Y j := by
  subst hj
  have hq : j.val / 4 < 16 := by have := j.isLt; omega
  have hr : j.val % 4 < 4 := Nat.mod_lt _ (by decide)
  have hne : ∀ a : Fin 64, BitVec.ofNat 32 j.val = BitVec.ofNat 32 a.val → j = a := fun a h => by
    have := congrArg BitVec.toNat h
    rw [BitVec.toNat_ofNat, BitVec.toNat_ofNat, Nat.mod_eq_of_lt (by omega), Nat.mod_eq_of_lt (by omega)] at this
    exact Fin.ext this
  have he : expert ⟨j.val / 4, hq⟩ ⟨j.val % 4, hr⟩ = j := Fin.ext (Nat.div_add_mod _ _)
  rw [Finset.sum_eq_single ⟨j.val / 4, hq⟩, Finset.sum_eq_single ⟨j.val % 4, hr⟩, he, if_pos rfl]
  · intro k _ hk
    refine if_neg fun h => hk (Fin.ext ?_)
    have := congrArg Fin.val (hne _ h)
    simp only [expert] at this ⊢; omega
  · exact fun h => absurd (Finset.mem_univ _) h
  · intro d _ hd
    refine Finset.sum_eq_zero fun k _ => if_neg fun h => hd (Fin.ext ?_)
    have := congrArg Fin.val (hne _ h)
    have := k.isLt
    simp only [expert] at *; omega
  · exact fun h => absurd (Finset.mem_univ _) h

/-- A word that is no expert leaves nothing. -/
theorem sum_no_expert (e : BitVec 32) (Y : Fin 64 → EReal) (h : ∀ j : Fin 64, e ≠ BitVec.ofNat 32 j.val) :
    ∑ d : Fin 16, ∑ k : Fin 4, (if e = BitVec.ofNat 32 (expert d k).val then Y (expert d k) else 0) = 0 :=
  Finset.sum_eq_zero fun _ _ => Finset.sum_eq_zero fun _ _ => if_neg (h _)

/-- The one-hot sum over the experts is the word's entry. -/
theorem one_hot (e : BitVec 32) (p : Fin 64 → EReal) (j : Fin 64) (hj : e = BitVec.ofNat 32 j.val) :
    ∑ i : Fin 64, (if BitVec.ofNat 32 i.val = e then p i else 0) = p j := by
  subst hj
  rw [Finset.sum_eq_single j, if_pos rfl]
  · intro a _ ha
    refine if_neg fun h => ha (Fin.ext ?_)
    have h1 := a.isLt
    have h2 := j.isLt
    have := congrArg BitVec.toNat h
    rw [BitVec.toNat_ofNat, BitVec.toNat_ofNat, Nat.mod_eq_of_lt (by omega), Nat.mod_eq_of_lt (by omega)] at this
    exact this
  · exact fun h => absurd (Finset.mem_univ _) h

/-- A select on an equality of words. -/
theorem select_eq {α : Type} (a b : BitVec 32) (x y : α) : Scalar.select (IntOp.cmpi .eq a b) x y = if a = b then x else y := by
  by_cases h : a = b
  · subst h; simp [Scalar.select, IntOp.cmpi]
  · have hb : (a == b) = false := beq_eq_false_iff_ne.mpr h
    simp [Scalar.select, IntOp.cmpi, h, hb]

end Cert.Moe

end
-- ==== Proof.KernelTerm.lean ====
/-
The kernel's result read at an index: the rows times the shared expert, and for every device of the ring its four
experts' products with the scaled rows, each where the row's expert is that one.
-/
module

public import proofs.«01_k».proof.Proof.Start
public import proofs.«01_k».proof.Proof.Softmax
public import Idealize.ShloMosaic.Lib.Pointwise

@[expose] public section

set_option maxRecDepth 16384

noncomputable section

namespace Cert.KernelIdeal.Ring

open Cert.KernelIdeal Cert.KernelIdeal.Gen
open Idealize.ShloMosaic

/-! ## Tiles by coordinates -/

/-- The tile of row `i` and the row's place in it. -/
def tileRow (i : Fin 2048) : Fin 8 := ⟨i.val / 256, by omega⟩
def placeRow (i : Fin 2048) : Fin 256 := ⟨i.val % 256, Nat.mod_lt _ (by decide)⟩

theorem ofTiles_ix {α : Type} {n : ℕ} (g : Fin 8 → (Tile n).Idx → α) (i : Fin 2048) (f : Fin n) :
    ofTiles g (ix2 i f) = g (tileRow i) (ix2 (placeRow i) f) := by
  unfold ofTiles
  refine congrArg (g (tileRow i)) (funext fun a => ?_)
  match a with
  | ⟨0, _⟩ => rfl
  | ⟨1, _⟩ => rfl

theorem rowsAt_ix {α : Type} {n : ℕ} (g : (Rows n).Idx → α) (i : Fin 2048) (f : Fin n) :
    rowsAt g (tileRow i) (ix2 (placeRow i) f) = g (ix2 i f) := by
  unfold rowsAt
  refine congrArg g (funext fun a => ?_)
  match a with
  | ⟨0, _⟩ => exact Fin.ext (Nat.div_add_mod _ _)
  | ⟨1, _⟩ => rfl

/-! ## Before the first hop -/

variable (X : (Rows 512).Idx → EReal) (R : S512x64.Idx → EReal) (I : (Rows 1).Idx → BitVec 32) (S : S512x1024.Idx → EReal)

theorem shared_apply (i : Fin 2048) (f : Fin 1024) :
    shared (F := Ideal) X S (ix2 i f) = ∑ k : Fin 512, X (ix2 i k) * S (ix2 k f) := by
  unfold shared
  rw [ofTiles_ix]
  pointwise [k0_pay66, k0_pay64]
  simp only [rowsAt_ix]

/-- A scaled row: the row times the probability of its expert, the sum of the row's probabilities masked to it. -/
theorem scaled_apply (i : Fin 2048) (k : Fin 512) :
    scaled (F := Ideal) X R I (ix2 i k) = X (ix2 i k)
      * ∑ a : Fin 64, if BitVec.ofNat 32 a.val = I (ix2 i 0) then Moe.prob (fun k => X (ix2 i k)) (fun k a => R (ix2 k a)) a else 0 := by
  unfold scaled
  rw [ofTiles_ix]
  pointwise [k0_pay65, k0_pay64]
  simp only [rowsAt_ix, Moe.select_eq]
  rfl

/-! ## A device's four experts -/

/-- What device `d`'s experts `W` add to the result at row `i`, column `f`. -/
def part (d : Dev nD) (W : S4x512x1024.Idx → EReal) (i : Fin 2048) (f : Fin 1024) : EReal :=
  ∑ k : Fin 4, if I (ix2 i 0) = BitVec.ofNat 32 (Moe.expert d k).val then ∑ j : Fin 512, X (ix2 i j) * W (ix3 k j f) else 0

theorem word_expert (d : Dev nD) (k : Fin 4) :
    Scalar.addi (Scalar.muli (BitVec.ofNat 32 d.val) 4#32) (BitVec.ofNat 32 k.val) = BitVec.ofNat 32 (Moe.expert d k).val := by
  revert d k; decide

/-- A masked sum is the sum or nothing. -/
theorem mask_sum (p : Prop) [Decidable p] (g : Fin 512 → EReal) : ∑ k, (if p then g k else 0) = if p then ∑ k, g k else 0 := by
  by_cases h : p
  · simp only [if_pos h]
  · simp only [if_neg h, Finset.sum_const_zero]

theorem expBlk_ix (W : S4x512x1024.Idx → EReal) (k : Fin 4) (j : Fin 512) (f : Fin 1024) :
    expBlk (F := Ideal) W k (ix4 0 0 j f) = W (ix3 k j f) := by
  unfold expBlk
  refine congrArg W (funext fun a => ?_)
  match a with
  | ⟨0, _⟩ => rfl
  | ⟨1, _⟩ => rfl
  | ⟨2, _⟩ => rfl

theorem accum_apply (d : Dev nD) (W : S4x512x1024.Idx → EReal) (A : (Rows 1024).Idx → EReal) (i : Fin 2048) (f : Fin 1024) :
    accum (F := Ideal) (BitVec.ofNat 32 d.val) X I W A (ix2 i f) = A (ix2 i f) + part X I d W i f := by
  unfold accum
  rw [ofTiles_ix]
  pointwise [payT, k0_pay67, k0_pay3, k0_pay4, k0_pay2]
  simp only [rowsAt_ix, Moe.select_eq]
  unfold part
  rw [Fin.sum_univ_four, ← word_expert d 0, ← word_expert d 1, ← word_expert d 2, ← word_expert d 3]
  simp only [mask_sum, expBlk_ix, ← add_assoc]
  rfl

/-! ## All the hops -/

theorem word_eq (c : Dev nD) : word c = BitVec.ofNat 32 (own true c 0).val := by revert c; decide
theorem wordR_eq (c : Dev nD) (h : Fin 9) : wordR c h.val = BitVec.ofNat 32 (own true c h.val).val := by revert c h; decide
theorem wordL_eq (c : Dev nD) (h : Fin 9) : wordL c h.val = BitVec.ofNat 32 (own false c h.val).val := by revert c h; decide

variable (E : Dev nD → S4x512x1024.Idx → EReal) (c : Dev nD)

/-- The devices in the order of the ring, counted backward from device `c`. -/
def ringOrder : Dev nD ≃ Fin 16 where
  toFun d := ⟨(c.val + (16 - d.val)) % 16, Nat.mod_lt _ (by decide)⟩
  invFun h := own true c h.val
  left_inv d := by revert c d; decide
  right_inv h := by revert c h; decide

theorem own_false_eq (h : Fin 8) : own false c h.val = own true c (16 - h.val) := by revert c h; decide

/-- Every device's blocks pass by once. -/
theorem sum_ring (D : Dev nD → EReal) : ∑ d, D d = ∑ h : Fin 16, D (own true c h.val) :=
  Fintype.sum_equiv (ringOrder c) _ _ fun d => congrArg D ((ringOrder c).left_inv d).symm

/-- The result after the loops of hop `h`: the device's own part and two parts for each hop. -/
theorem rounds_apply (A : (Rows 1024).Idx → EReal) (i : Fin 2048) (f : Fin 1024) (h : ℕ) (hh : h ≤ 7) :
    rounds (F := Ideal) E c X I A h (ix2 i f) = A (ix2 i f) + (part X I (own true c 0) (E (own true c 0)) i f
      + ∑ k ∈ Finset.range h, (part X I (own true c (k + 1)) (E (own true c (k + 1))) i f
          + part X I (own false c (k + 1)) (E (own false c (k + 1))) i f)) := by
  induction h with
  | zero =>
    unfold rounds
    rw [word_eq, accum_apply, Finset.range_zero, Finset.sum_empty, add_zero]
  | succ h ih =>
    have hR := wordR_eq c ⟨h + 1, by omega⟩
    have hL := wordL_eq c ⟨h + 1, by omega⟩
    simp only at hR hL
    unfold rounds
    rw [hR, hL, accum_apply, accum_apply, ih (by omega), Finset.sum_range_succ]
    simp only [add_assoc]

/-- Eight steps backward and seven forward go once around the ring of sixteen. -/
theorem sum_around (g : ℕ → EReal) :
    g 0 + ∑ k ∈ Finset.range 7, (g (k + 1) + g (15 - k)) + g 8 = ∑ n ∈ Finset.range 16, g n := by
  simp only [Finset.sum_range_succ, Finset.range_zero, Finset.sum_empty, zero_add, Nat.reduceAdd, Nat.reduceSub]
  ac_rfl

/-- The result: what stood there, and each device's part. -/
theorem total_apply (A : (Rows 1024).Idx → EReal) (i : Fin 2048) (f : Fin 1024) :
    total (F := Ideal) E c X I A (ix2 i f) = A (ix2 i f) + ∑ d, part X I d (E d) i f := by
  have hR : wordR c 8 = BitVec.ofNat 32 (own true c 8).val := wordR_eq c 8
  have hp : ∀ n : ℕ, n < 7 → own false c (n + 1) = own true c (15 - n) := fun n hn =>
    (own_false_eq c ⟨n + 1, by omega⟩).trans (congrArg (own true c) (by show 16 - (n + 1) = 15 - n; omega))
  unfold total
  rw [hR, accum_apply, rounds_apply X I E c A i f 7 (by decide), add_assoc, sum_ring c,
    Finset.sum_congr rfl fun n hn => by rw [hp n (Finset.mem_range.mp hn)]]
  refine congrArg (A (ix2 i f) + ·) ?_
  refine (sum_around fun n => part X I (own true c n) (E (own true c n)) i f).trans ?_
  exact (Fin.sum_univ_eq_sum_range (fun n => part X I (own true c n) (E (own true c n)) i f) 16).symm

end Cert.KernelIdeal.Ring

end
-- ==== Proof.RefTerm.lean ====
/-
The reference's result read at an index: the shared expert's product plus the gate times the routed expert's product.
-/
module

public import proofs.«01_k».proof.Proof.Gen.ReferenceIdeal.Run
public import proofs.«01_k».proof.Proof.Softmax
public import Idealize.ShloMosaic.Lib.Pointwise
public import Idealize.ShloMosaic.Lib.StableHlo.Predicate

@[expose] public section

set_option maxRecDepth 16384

noncomputable section

namespace Cert.ReferenceIdeal.Mix

open Cert.ReferenceIdeal Cert.ReferenceIdeal.Gen Idealize.ShloMosaic

variable (x : Vec Ideal S32768x512 .bf16) (r : Vec Ideal S512x64 .bf16) (e : Vec Ideal S32768x1 .i32)
  (w : Vec Ideal S64x512x1024 .bf16) (s : Vec Ideal S512x1024 .bf16)

/-- The router's scores, and their softmax along a row. -/
def scores : FVec Ideal S32768x64 .f32 :=
  Host.dotGeneral dot_S32768x512_S512x64_S32768x64_1_0_0_1_n_n none (extf .f32 x bitsLt_bf16_f32) (extf .f32 r bitsLt_bf16_f32)
def weights : FVec Ideal S32768x64 .f32 :=
  Host.exp (subf (scores x r) (broadcastInDim S32768x64 ![0, 1] bcast_S32768x1_S32768x64_0_1 (broadcastInDim S32768x1 ![0] bcast_S32768_S32768x1_0
    (Host.reduce FloatOps.maximumf (scores x r) (constant S_ .f32 0xFF800000#32) reducesTo_S32768x64_S32768_d1 h_S_))))
def probs : FVec Ideal S32768x64 .f32 :=
  Host.divf (weights x r) (broadcastInDim S32768x64 ![0, 1] bcast_S32768x1_S32768x64_0_1 (broadcastInDim S32768x1 ![0] bcast_S32768_S32768x1_0
    (Host.reduceAdd (weights x r) (constant S_ .f32 0x00000000#32) reducesTo_S32768x64_S32768_d1 h_S_)))

/-- Each row's number next to its expert, and the expert alone. -/
def column : IVec S32768x1 32 := broadcastInDim S32768x1 ![0] bcast_S32768_S32768x1_0 (shapeCast S32768 e shapeCasts_S32768x1_S32768)
def pairs : IVec S32768x2 32 :=
  concatenate S32768x2 1 [⟨S32768x1, (broadcastInDim S32768x1 ![0] bcast_S32768_S32768x1_0 (iotaInDim S32768 32 0))⟩, ⟨S32768x1, column e⟩] concatenates_S32768x1_S32768x1_S32768x2_d1

/-- Where the pair lies inside the table, and the gate: the pair's entry there, zero elsewhere. -/
def inside : IVec S32768 1 :=
  Host.reduce IntOp.andi (andi (cmpi .sge (pairs e) (broadcastInDim S32768x2 ![] bcast_S_S32768x2 (constantI S_ 32 0#32)))
    (cmpi .sle (pairs e) (broadcastInDim S32768x2 ![0, 1] bcast_S1x2_S32768x2_0_1 (broadcastInDim S1x2 ![1] bcast_S2_S1x2_1 (fun i => lit0 (S2.rowMajor i))))))
    (constantI S_ 1 1#1) reducesTo_S32768x2_S32768_d1 h_S_
def gate : FVec Ideal S32768 .f32 :=
  select (inside e) (Host.gather gather_S32768x64_S32768x2_S32768_n_01_n_n_01_1_11 (probs x r) (pairs e)) (broadcastInDim S32768 ![] bcast_S_S32768 (constant S_ .f32 0x00000000#32))

/-- Each row's expert. -/
def experts : FVec Ideal S32768x512x1024 .f32 :=
  Host.gather gather_S64x512x1024_S32768x1_S32768x512x1024_12_0_n_n_0_1_15121024 (extf .f32 w bitsLt_bf16_f32 : FVec Ideal S64x512x1024 .f32) (column e)

/-- The reference's result. -/
def result : FVec Ideal S32768x1024 .f32 :=
  addf (Host.dotGeneral dot_S32768x512_S512x1024_S32768x1024_1_0_0_1_n_n none (extf .f32 x bitsLt_bf16_f32) (extf .f32 s bitsLt_bf16_f32))
    (mulf (broadcastInDim S32768x1024 ![0, 1] bcast_S32768x1_S32768x1024_0_1 (broadcastInDim S32768x1 ![0] bcast_S32768_S32768x1_0 (gate x r e)))
      (Host.dotGeneral dot_S32768x512_S32768x512x1024_S32768x1024_1_1_n_2_0_0 none (extf .f32 x bitsLt_bf16_f32) (experts e w)))

/-- Every execution of the reference ends with `result` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-- The probabilities are the softmax of the row's scores. -/
theorem probs_apply (i : Fin 32768) (j : Fin 64) : probs x r (ix2 i j) = Moe.prob (fun k => x (ix2 i k)) (fun k a => r (ix2 k a)) j := by
  pointwise [probs, weights, scores]
  rfl

theorem column_apply (i : Fin 32768) : column e (ix2 i 0) = e (ix2 i 0) := by
  pointwise [column]
theorem pairs_zero (i : Fin 32768) : pairs e (ix2 i 0) = BitVec.ofNat 32 i.val := by
  pointwise [pairs]
theorem pairs_one (i : Fin 32768) : pairs e (ix2 i 1) = e (ix2 i 0) := by
  pointwise [pairs, column]

/-- The two gathers' dimension numbers. -/
abbrev GP : GatherDims S32768x64 S32768x2 S32768 := gather_S32768x64_S32768x2_S32768_n_01_n_n_01_1_11
abbrev GE : GatherDims S64x512x1024 S32768x1 S32768x512x1024 := gather_S64x512x1024_S32768x1_S32768x512x1024_12_0_n_n_0_1_15121024

/-- Both axes of the table are read from the start index. -/
theorem mem_pair (a : Fin 2) : a ∈ ([0, 1] : List (Fin 2)) := by
  match a with
  | ⟨0, _⟩ => exact List.mem_cons_self
  | ⟨1, _⟩ => exact List.mem_cons_of_mem _ List.mem_cons_self

/-- Coordinate `a` of a pair, where row `i` looks for it. -/
theorem si_pair (i : Fin 32768) (a : Fin 2) (h) : GP.siIdx (ix1 i) ⟨List.idxOf a GP.startIndexMap, h⟩ = ix2 i a := by
  funext b
  refine Fin.ext ?_
  match a, b with
  | ⟨0, _⟩, ⟨0, _⟩ => rfl
  | ⟨0, _⟩, ⟨1, _⟩ => rfl
  | ⟨1, _⟩, ⟨0, _⟩ => rfl
  | ⟨1, _⟩, ⟨1, _⟩ => rfl

theorem si_row (i : Fin 32768) (k : Fin 512) (f : Fin 1024) (h) : GE.siIdx (ix3 i k f) ⟨List.idxOf (0 : Fin 3) GE.startIndexMap, h⟩ = ix2 i 0 := by
  funext b
  refine Fin.ext ?_
  match b with
  | ⟨0, _⟩ => rfl
  | ⟨1, _⟩ => rfl

/-- The table's entry at a pair that lies in it. -/
theorem gather_pair (P : FVec Ideal S32768x64 .f32) (i : Fin 32768) (j : Fin 64) (hj : e (ix2 i 0) = BitVec.ofNat 32 j.val) :
    Host.gather GP P (pairs e) (ix1 i) = P (ix2 i j) := by
  unfold Host.gather
  refine congrArg P (funext fun a => Fin.ext ?_)
  have hk : a ∉ GP.sKept := fun h => ((GatherDims.mem_sKept _ _).mp h).1 (mem_pair a)
  show GP.start (ix1 i) (pairs e) a + GP.batchCoord (ix1 i) a + GP.offCoord (ix1 i) a = _
  rw [GatherDims.batchCoord_eq_zero _ _ _ List.not_mem_nil, GatherDims.offCoord_eq_zero _ _ _ hk]
  simp only [Nat.add_zero]
  refine (dif_pos (show a ∈ GP.startIndexMap from mem_pair a)).trans ?_
  rw [si_pair]
  match a with
  | ⟨0, _⟩ =>
    show min (pairs e (ix2 i 0)).toInt.toNat 32767 = i.val
    rw [pairs_zero, StableHlo.Predicate.toInt_ofNat_small _ (by omega)]
    omega
  | ⟨1, _⟩ =>
    show min (pairs e (ix2 i 1)).toInt.toNat 63 = j.val
    rw [pairs_one, hj, StableHlo.Predicate.toInt_ofNat_small _ (by omega)]
    omega

/-- The row's expert. -/
theorem experts_apply (i : Fin 32768) (j : Fin 64) (hj : e (ix2 i 0) = BitVec.ofNat 32 j.val) (k : Fin 512) (f : Fin 1024) :
    experts e w (ix3 i k f) = w (ix3 j k f) := by
  unfold experts Host.gather
  refine congrArg w (funext fun a => Fin.ext ?_)
  show GE.start (ix3 i k f) (column e) a + GE.batchCoord (ix3 i k f) a + GE.offCoord (ix3 i k f) a = _
  rw [GatherDims.batchCoord_eq_zero _ _ _ List.not_mem_nil, Nat.add_zero]
  match a with
  | ⟨0, _⟩ =>
    have hk : (0 : Fin 3) ∉ GE.sKept := fun h => ((GatherDims.mem_sKept _ _).mp h).1 List.mem_cons_self
    show GE.start (ix3 i k f) (column e) (0 : Fin 3) + GE.offCoord (ix3 i k f) (0 : Fin 3) = j.val
    rw [GatherDims.offCoord_eq_zero _ _ _ hk, Nat.add_zero]
    refine (dif_pos (show (0 : Fin 3) ∈ GE.startIndexMap from List.mem_cons_self)).trans ?_
    rw [si_row, column_apply, hj, StableHlo.Predicate.toInt_ofNat_small _ (by omega)]
    show min ((j.val : ℤ)).toNat 63 = j.val
    omega
  | ⟨1, _⟩ =>
    have h : GE.start (ix3 i k f) (column e) (1 : Fin 3) = 0 := dif_neg (fun h : (1 : Fin 3) ∈ [(0 : Fin 3)] => absurd (List.mem_singleton.mp h) (by decide))
    show GE.start (ix3 i k f) (column e) (1 : Fin 3) + GE.offCoord (ix3 i k f) (1 : Fin 3) = k.val
    rw [h, Nat.zero_add]
    rfl
  | ⟨2, _⟩ =>
    have h : GE.start (ix3 i k f) (column e) (2 : Fin 3) = 0 := dif_neg (fun h : (2 : Fin 3) ∈ [(0 : Fin 3)] => absurd (List.mem_singleton.mp h) (by decide))
    show GE.start (ix3 i k f) (column e) (2 : Fin 3) + GE.offCoord (ix3 i k f) (2 : Fin 3) = f.val
    rw [h, Nat.zero_add]
    rfl

/-- A word between zero and 63, read signed, is one of the 64 numbers. -/
theorem small_word (b : BitVec 32) : (0 ≤ b.toInt ∧ b.toInt ≤ 63) ↔ ∃ j : Fin 64, b = BitVec.ofNat 32 j.val := by
  constructor
  · rintro ⟨h0, h1⟩
    have h2 := BitVec.toInt_eq_toNat_cond b
    have h3 := b.isLt
    split at h2
    · exact ⟨⟨b.toNat, by omega⟩, by simp⟩
    · omega
  · rintro ⟨j, rfl⟩
    rw [StableHlo.Predicate.toInt_ofNat_small _ (by omega)]
    omega

/-- The test of a pair is the test of its two words. -/
theorem inside_apply (i : Fin 32768) : inside e (ix1 i) = 1#1 ↔ ∃ j : Fin 64, e (ix2 i 0) = BitVec.ofNat 32 j.val := by
  have h0 : (BitVec.ofNat 32 i.val).toInt = i.val := StableHlo.Predicate.toInt_ofNat_small _ (by omega)
  have hl : lit0 (S2.rowMajor (ix1 (0 : Fin 2))) = 32767#32 ∧ lit0 (S2.rowMajor (ix1 (1 : Fin 2))) = 63#32 := ⟨rfl, rfl⟩
  rw [← small_word]
  pointwise [inside, pairs, column]
  rw [show (Finset.univ : Finset (Fin 2)) = {0, 1} from rfl, Finset.fold_insert (by decide), Finset.fold_singleton, hl.1, hl.2]
  have hw : ∀ b c : BitVec 32, b.sle c = decide (b.toInt ≤ c.toInt) := fun _ _ => rfl
  have hi : (0#32).sle (BitVec.ofNat 32 i.val) = true ∧ (BitVec.ofNat 32 i.val).sle 32767#32 = true := by
    rw [hw, hw, h0]
    exact ⟨decide_eq_true (by simp), decide_eq_true (show (i.val : ℤ) ≤ 32767 by omega)⟩
  have hb : ∀ p q : Bool, (BitVec.ofBool true &&& (BitVec.ofBool (p && q) &&& 1#1) = 1#1) ↔ (p = true ∧ q = true) := by decide
  have h1 : ∀ p q : Bool, IntOp.andi (IntOp.andi (BitVec.ofBool true) (BitVec.ofBool true)) (IntOp.andi (IntOp.andi (BitVec.ofBool p) (BitVec.ofBool q)) 1#1) = 1#1
      ↔ (p = true ∧ q = true) := by decide
  simp only [IntOp.cmpi, Fin.val_zero, Fin.val_one, Nat.zero_lt_one, Nat.lt_irrefl, dif_pos, dif_neg, not_false_eq_true, hi.1, hi.2]
  refine (h1 _ _).trans ?_
  rw [hw, hw, decide_eq_true_iff, decide_eq_true_iff]
  rfl

/-- A row whose expert is one of the 64: the shared product plus the expert's probability times its product. -/
theorem result_in (i : Fin 32768) (f : Fin 1024) (j : Fin 64) (hj : e (ix2 i 0) = BitVec.ofNat 32 j.val) :
    result x r e w s (ix2 i f) = (∑ k, x (ix2 i k) * s (ix2 k f))
      + Moe.prob (fun k => x (ix2 i k)) (fun k a => r (ix2 k a)) j * ∑ k, x (ix2 i k) * w (ix3 j k f) := by
  pointwise [result, gate]
  rw [(inside_apply e i).mpr ⟨j, hj⟩, gather_pair e _ i j hj, probs_apply]
  simp only [experts_apply e w i j hj]
  rfl

/-- A row whose expert is none of the 64: the shared product alone. -/
theorem result_out (i : Fin 32768) (f : Fin 1024) (h : ∀ j : Fin 64, e (ix2 i 0) ≠ BitVec.ofNat 32 j.val) :
    result x r e w s (ix2 i f) = ∑ k, x (ix2 i k) * s (ix2 k f) := by
  pointwise [result, gate]
  have hn : inside e (ix1 i) ≠ 1#1 := fun c => ((inside_apply e i).mp c).elim h
  rw [show ∀ (b : BitVec 1) (u v : EReal), b ≠ 1#1 → Scalar.select b u v = v from fun b u v hb => if_neg hb]
  · exact add_zero _
  · exact hn

end Cert.ReferenceIdeal.Mix

end
-- ==== Proof.Body.lean ====
/-
The kernel's body on one device, in program order: the barrier, the copies into slot 0, the first loop, eight hops.
-/
module

public import proofs.«01_k».proof.Proof.Start

@[expose] public section

set_option maxRecDepth 65536

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (E : Dev nD → S4x512x1024.Idx → Elt F .bf16) (K : Dev nD × Kind → ℕ)

/-- The body at the buffers it is launched with. -/
def body : Prog (TpuEff nD τ sig (Elt F) Λ₀ .tc) PUnit :=
  cc0_body xM (Memref.isWhole_whole _) rM (Memref.isWhole_whole _) iM (Memref.isWhole_whole _) eM (Memref.isWhole_whole _) sM (Memref.isWhole_whole _)
    oM (Memref.isWhole_whole _) xsM (Memref.isWhole_whole _) swM (Memref.isWhole_whole _) comm2 (Memref.isWhole_whole _) comm3 (Memref.isWhole_whole _)
    cc0_scratch4 cc0_scratch5 cc0_scratch6 cc0_scratch7 cc0_scratch8 cc0_scratch9

/-- `step_block` with the numbers of blocks before and after given. -/
theorem put_block (b : Bool) (c : Dev nD) (k : Fin 4) (n n' : ℕ) (hn : n = k.val) (hn' : n' = k.val + 1) {o : Fin 4 → ℕ} (ho : o = ![0, k.val, 0, 0])
    (W : S4x512x1024.Idx → Elt F .bf16) (f : CommBuf (F := F)) (w : S1x1x512x1024.Idx → Elt F .bf16) (hw : w = expBlk W k) {inb}
    {hl : (commM b).view.LoadsAt (Rect.unit (s := S2x4x512x1024) o S1x1x512x1024.size inb).toLoadRect}
    {hx : ((commM b).access (Rect.unit (s := S2x4x512x1024) o S1x1x512x1024.size inb)).Stores Finset.univ}
    {hm : (Finset.univ : Finset (Rect.unit (s := S2x4x512x1024) o S1x1x512x1024.size inb).shape.Idx) = Finset.univ ∨ ∀ a : Fin S2x4x512x1024.rank, (Rect.unit (s := S2x4x512x1024) o S1x1x512x1024.size inb).stride a = 1}
    {α : Type} {Q : α → sProp 𝕄} {kk : PUnit → Prog (TpuEff nD τ sig (Elt F) Λ₀ .tc) α} :
    (slotPts b 0 c fullShare (blkTo n W f) : sProp 𝕄)
      ⊢ iprop((slotPts b 0 c fullShare (blkTo n' W f) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (commM b) (Rect.unit (s := S2x4x512x1024) o S1x1x512x1024.size inb).toLoadRect hl)
                fun _ => .op (.store (commM b) (Rect.unit (s := S2x4x512x1024) o S1x1x512x1024.size inb) w Finset.univ hx hm) kk) Q) := by
  subst hn hn'
  exact step_block b c k ho W f w hw

omit [FloatOps F] in
theorem blocks_none (b : Bool) (c : Dev nD) (W : S4x512x1024.Idx → Elt F .bf16) (f : CommBuf (F := F)) :
    (slotPts b 0 c fullShare f : sProp 𝕄) ⊢ slotPts b 0 c fullShare (blkTo 0 W f) := by rw [blkTo_zero]
omit [FloatOps F] in
theorem blocks_all (b : Bool) (c : Dev nD) (f : CommBuf (F := F)) :
    (slotPts b 0 c fullShare (blkTo 4 (E c) f) : sProp 𝕄) ⊢ slotPts b 0 c fullShare (blk (E (own b c 0))) := by rw [blkTo_four, own_zero]

theorem slot_exact (b : Bool) (s : Fin 2) : (slotM b s).view.WordExact := by
  cases b
  · match s with
    | 0 => exact ((Memref.isWhole_whole cc0_scratch3).wordExact_slice rfl _ wordsbf16_S2x4x512x1024_S1x4x512x1024_0_0_0_0).reshape _ _
    | 1 => exact ((Memref.isWhole_whole cc0_scratch3).wordExact_slice rfl _ wordsbf16_S2x4x512x1024_S1x4x512x1024_1_0_0_0).reshape _ _
  · match s with
    | 0 => exact ((Memref.isWhole_whole cc0_scratch2).wordExact_slice rfl _ wordsbf16_S2x4x512x1024_S1x4x512x1024_0_0_0_0).reshape _ _
    | 1 => exact ((Memref.isWhole_whole cc0_scratch2).wordExact_slice rfl _ wordsbf16_S2x4x512x1024_S1x4x512x1024_1_0_0_0).reshape _ _

/-- The shared expert, loaded and stored whole. -/
theorem write_sw (g S : S512x1024.Idx → Elt F .bf16) :
    (swM.access (Rect.unit (s := S512x1024) ![0, 0] S512x1024.size inb_S512x1024_S512x1024_0_0) : View sig .tc _ _ _).write (Elt F) g
      (k0_pay63 (k0_pay62 (sM.view.readAt (Elt F) (Rect.unit (s := S512x1024) ![0, 0] S512x1024.size inb_S512x1024_S512x1024_0_0).toLoadRect S))) Finset.univ = S := by
  refine (Memref.write_access_unit_zero_univ (Elt F) cc0_scratch1 zero2 _ g _).trans ?_
  unfold k0_pay63 k0_pay62
  have h : (sM.view.readAt (Elt F) (Rect.unit (s := S512x1024) ![0, 0] S512x1024.size inb_S512x1024_S512x1024_0_0).toLoadRect S) = S :=
    Memref.readAt_unit_zero (Elt F) cc0_stg4_0 zero2 _ S
  rw [h]
  show shapeCast _ (shapeCast _ S _) _ = S
  rw [shapeCast_self, shapeCast_self]

/-- The staged blocks on device `c`, the result `A`. -/
def Staged (c : Dev nD) (X : (Rows 512).Idx → Elt F .bf16) (R : S512x64.Idx → Elt F .bf16) (I : (Rows 1).Idx → Elt F .i32) (S : S512x1024.Idx → Elt F .bf16)
    (A : (Rows 1024).Idx → Elt F .f32) : sProp 𝕄 :=
  iprop(xPts c X ∗ rPts c R ∗ iPts c I ∗ ePts c (E c) ∗ sPts c S ∗ oPts c A)

/-- What a device computes. -/
def answer (c : Dev nD) (X : (Rows 512).Idx → Elt F .bf16) (R : S512x64.Idx → Elt F .bf16) (I : (Rows 1).Idx → Elt F .i32) (S : S512x1024.Idx → Elt F .bf16) :
    (Rows 1024).Idx → Elt F .f32 := total E c (scaled X R I) I (shared X S)

theorem dev_right {c : Dev nD} {n : ℕ} {h : n < nD} (e : n = (c.val + 1) % 16) : (⟨n, h⟩ : Dev nD) = fwd true c := Fin.ext e
theorem dev_left {c : Dev nD} {n : ℕ} {h : n < nD} (e : n = (c.val + 15) % 16) : (⟨n, h⟩ : Dev nD) = fwd false c := Fin.ext e

omit [FloatOps F] in
theorem work_eq (c : Dev nD) (X : (Rows 512).Idx → Elt F .bf16) (I : (Rows 1).Idx → Elt F .i32) (A : (Rows 1024).Idx → Elt F .f32) :
    (Work c X I A : sProp 𝕄) = iprop(xsPts c X ∗ iPts c I ∗ oPts c A) := rfl
omit [FloatOps F] in
theorem have_eq (c : Dev nD) (h : ℕ) (X : (Rows 512).Idx → Elt F .bf16) (I : (Rows 1).Idx → Elt F .i32) (A : (Rows 1024).Idx → Elt F .f32) :
    Have E c h X I A = iprop(Got E true c h ∗ Got E false c h ∗ Ow c (st (h + 1) h (h + 1) h) ∗ Work c X I A) := rfl

/-- What a wait for a copy between two slots waits for: the bytes of a slot. -/
theorem wait_slot (c : Dev nD) (sem : DmaSem sig) (b : Bool) (s s' : Fin 2) (Kt : PUnit → sProp 𝕄) :
    wpE (defs₀ (F := F)) 𝒱₀ (c : Thread nD τ) none Set.univ (.waitDma2 sem (slotM b s') (slotM b s) (slot_exact b s') (slot_exact b s)) Kt
      = waitSpec (c : Thread nD τ) Set.univ (.dma sem) N Kt := by
  rw [wpE_waitDma2_eq 𝒱₀ (c : Thread nD τ) none Set.univ]
  exact congrArg (fun n => waitSpec (c : Thread nD τ) Set.univ (.dma sem) n Kt) (by cases b <;> rfl)

omit [FloatOps F] in
/-- The slot of the newest arrival, out of a direction's state and back. -/
theorem got_slot (b : Bool) (c : Dev nD) (h : ℕ) :
    Got E b c h ⊢ iprop(slotPts b (par (h + 1)) c fullShare (holds E b c (h + 1)) ∗ (slotPts b (par (h + 1)) c fullShare (holds E b c (h + 1)) -∗ Got E b c h)) := by
  unfold Got
  iintro ⟨H1, H2, H3⟩
  isplitl [H2]; · iexact H2
  iintro H2
  isplitl [H1]; · iexact H1
  isplitl [H2] <;> iassumption

theorem trips2 : k0_t2_loop.trips = 8 := by decide +kernel

set_option maxHeartbeats 4000000 in
theorem sound_core (c : Dev nD) (X : (Rows 512).Idx → Elt F .bf16) (R : S512x64.Idx → Elt F .bf16) (I : (Rows 1).Idx → Elt F .i32) (S : S512x1024.Idx → Elt F .bf16)
    (A : (Rows 1024).Idx → Elt F .f32) (f : (Rows 512).Idx → Elt F .bf16) (g : S512x1024.Idx → Elt F .bf16) (f0 f1 f2 f3 : CommBuf (F := F)) (W : Waits sig ℕ)
    (Kt : PUnit → sProp 𝕄) :
    iprop(Shared E K ∗ Meet c ∗ Seed true c ∗ Seed false c ∗ owes (c : Thread nD τ) (O₀ c) W ∗ Staged E c X R I S A
        ∗ (xsPts c f ∗ swPts c g) ∗ (slotPts true 0 c fullShare f0 ∗ slotPts true 1 c fullShare f1) ∗ (slotPts false 0 c fullShare f2 ∗ slotPts false 1 c fullShare f3)
        ∗ ((Zeros c ∗ Ow c (st 8 7 7 6) ∗ Staged E c X R I S (answer E c X R I S) ∗ (xsPts c (scaled X R I) ∗ swPts c S) ∗ Slots c) -∗ Kt ⟨⟩))
      ⊢ wp frame (wpE (defs₀ (F := F)) 𝒱₀ (c : Thread nD τ) none) Set.univ body Kt := by
  unfold body
  rw [cc0_body_eq_skeleton]; unfold cc0_body_skel
  simp only [k0_part17_eq_skeleton]; unfold k0_part17_skel
  simp only [semSignalWord, semWaitWord, Prog.lift, Prog.bind_op, Prog.bind_ret, Prog.pure_eq_ret, wp_deviceId]
  unfold Staged
  iintro ⟨#HS, HM, HR, HL, HO, ⟨Hx, Hr, Hi, He, Hsh, Ho⟩, ⟨Hxs, Hsw⟩, ⟨Hr0, Hr1⟩, ⟨Hl0, Hl1⟩, Hk⟩
  ihave HR := (Seed_reached true c) $$ HR
  ihave HL := (Seed_reached false c) $$ HL
  icases HR with ⟨HR, #HrR⟩
  icases HL with ⟨HL, #HrL⟩
  iapply (wp_meet E K c _ _ (dev_left (k0_dev1_eq c)) (dev_right (k0_dev2_eq c)) rfl rfl (wpE_semWait_eq 𝒱₀ (c : Thread nD τ) none Set.univ) f1 f3 W) $$ [HM Hr1 Hl1 HO]
  · isplitr; · iexact HS
    isplitl [HM]; · iexact HM
    isplitl [Hr1]
    · isplitl [Hr1]; · iexact Hr1
      iexact HrR
    isplitl [Hl1]
    · isplitl [Hl1]; · iexact Hl1
      iexact HrL
    iexact HO
  iintro ⟨HtR, HtL, HaB, HO⟩
  -- the four blocks into both slots 0
  ihave Hr0 := (blocks_none true c (E c) f0) $$ Hr0
  ihave Hl0 := (blocks_none false c (E c) f2) $$ Hl0
  unfold ePts sPts
  iapply (wp_load 𝒱₀ (c : Thread nD τ) none Set.univ (m := eM) (Finset.subset_univ _)) $$ He; iintro He
  iapply (put_block true c 0 0 1 rfl rfl rfl (E c) f0 _ (cast_block (E c) 0 rfl _)) $$ Hr0; iintro Hr0
  iapply (put_block false c 0 0 1 rfl rfl rfl (E c) f2 _ (cast_block (E c) 0 rfl _)) $$ Hl0; iintro Hl0
  iapply (wp_load 𝒱₀ (c : Thread nD τ) none Set.univ (m := eM) (Finset.subset_univ _)) $$ He; iintro He
  simp only [k0_part18_eq_skeleton]; unfold k0_part18_skel
  simp only [Prog.lift, Prog.bind_op, Prog.bind_ret, Prog.pure_eq_ret]
  iapply (put_block true c 1 1 2 rfl rfl rfl (E c) f0 _ (cast_block (E c) 1 rfl _)) $$ Hr0; iintro Hr0
  iapply (put_block false c 1 1 2 rfl rfl rfl (E c) f2 _ (cast_block (E c) 1 rfl _)) $$ Hl0; iintro Hl0
  iapply (wp_load 𝒱₀ (c : Thread nD τ) none Set.univ (m := eM) (Finset.subset_univ _)) $$ He; iintro He
  iapply (put_block true c 2 2 3 rfl rfl rfl (E c) f0 _ (cast_block (E c) 2 rfl _)) $$ Hr0; iintro Hr0
  iapply (put_block false c 2 2 3 rfl rfl rfl (E c) f2 _ (cast_block (E c) 2 rfl _)) $$ Hl0; iintro Hl0
  iapply (wp_load 𝒱₀ (c : Thread nD τ) none Set.univ (m := eM) (Finset.subset_univ _)) $$ He; iintro He
  iapply (put_block true c 3 3 4 rfl rfl rfl (E c) f0 _ (cast_block (E c) 3 rfl _)) $$ Hr0; iintro Hr0
  iapply (put_block false c 3 3 4 rfl rfl rfl (E c) f2 _ (cast_block (E c) 3 rfl _)) $$ Hl0; iintro Hl0
  -- the shared expert
  iapply (wp_load 𝒱₀ (c : Thread nD τ) none Set.univ (m := sM) (Finset.subset_univ _)) $$ Hsh; iintro Hsh
  simp only [k0_part19_eq_skeleton]; unfold k0_part19_skel
  simp only [Prog.lift, Prog.bind_op, Prog.bind_ret, Prog.pure_eq_ret, bind_assoc]
  unfold swPts
  iapply (wp_load 𝒱₀ (c : Thread nD τ) none Set.univ (m := swM) (Finset.subset_univ _)) $$ Hsw; iintro Hsw
  iapply (wp_store 𝒱₀ (c : Thread nD τ) none Set.univ (m := swM) (r := Rect.unit (s := S512x1024) ![0, 0] S512x1024.size inb_S512x1024_S512x1024_0_0) (Mk := Finset.univ) (Finset.subset_univ _)) $$ Hsw; iintro Hsw
  rw [write_sw]
  -- the first loop
  iapply (wp_prep c X R I S f A _ _ (fun t u => prep_step c X R I S f A c _ _ _ t u)) $$ [Hx Hr Hi Hsw Hxs Ho]
  · isplitl [Hx]; · iexact Hx
    isplitl [Hr]; · iexact Hr
    isplitl [Hi]; · iexact Hi
    isplitl [Hsw]; · unfold swPts; iexact Hsw
    isplitl [Hxs]; · iexact Hxs
    iexact Ho
  iintro ⟨Hx, Hr, Hi, Hsw, Hxs, Ho⟩
  ihave Hr0 := (blocks_all E true c f0) $$ Hr0
  ihave Hl0 := (blocks_all E false c f2) $$ Hl0
  ihave HR := (Seed_ready E true c) $$ [Hr0 HtR HR]
  · isplitl [Hr0]; · iexact Hr0
    isplitl [HtR]; · iexact HtR
    iexact HR
  ihave HL := (Seed_ready E false c) $$ [Hl0 HtL HL]
  · isplitl [Hl0]; · iexact Hl0
    isplitl [HtL]; · iexact HtL
    iexact HL
  ihave HW := (BIBase.Entails.of_eq (work_eq c (scaled X R I) I (shared X S)).symm) $$ [Hxs Hi Ho]
  · isplitl [Hxs]; · iexact Hxs
    isplitl [Hi]; · iexact Hi
    iexact Ho
  -- hop 0
  simp only [Prog.bind_op, Prog.bind_ret, k0_part20_eq_skeleton, k0_part21_eq_skeleton]; unfold k0_part20_skel k0_part21_skel
  simp only [semSignalWord, semWaitWord, Prog.lift, Prog.bind_op, Prog.bind_ret, Prog.pure_eq_ret, bind_assoc]
  iapply (step_send E K true c _ 0 (st 0 0 0 0) (st 1 0 0 0) (dev_right (k0_dev3_eq c)) (by decide) rfl rfl rfl rfl rfl rfl rfl
    (hsrc := slot_exact _ _) (hdst := slot_exact _ _)) $$ [HR HO]
  · isplitr; · iexact HS
    isplitl [HR]; · iexact HR
    iexact HO
  iintro ⟨HsR, HR, HO⟩
  iapply (step_send E K false c _ 0 (st 1 0 0 0) (st 1 0 1 0) (dev_left (k0_dev4_eq c)) (by decide) rfl rfl rfl rfl rfl rfl rfl
    (hsrc := slot_exact _ _) (hdst := slot_exact _ _)) $$ [HL HO]
  · isplitr; · iexact HS
    isplitl [HL]; · iexact HL
    iexact HO
  iintro ⟨HsL, HL, HO⟩
  iapply (wp_mult E true c 0 fullShare.right (word c) _ I _ trips2 (fun t u => tile_step true 0 c fullShare.right (word c) (E (own true c 0)) _ I _ ⟨t.val, Nat.lt_of_lt_of_le t.isLt k0_t2_abs.2.1⟩
    (k0_off4_eq t) (k0_off5_eq t) (k0_off6_eq t))) $$ [HsR HW]
  · isplitl [HsR]; · iexact HsR
    iexact HW
  iintro ⟨HsR, HW⟩
  iapply (wp_arrive E K true c 0 (st 1 0 1 0) (by decide) (fun b' => by cases b' <;> exact ⟨fun _ => Nat.one_pos, fun _ => Nat.le_refl 0⟩)
    (wait_slot c _ true 0 1) (wait_slot c _ true 1 0)) $$ [HsR HR HO]
  · isplitr; · iexact HS
    isplitl [HsR]; · iexact HsR
    isplitl [HR]; · iexact HR
    iexact HO
  iintro ⟨HR, HO⟩
  iapply (wp_arrive E K false c 0 (st 1 0 1 0) (by decide) (fun b' => by cases b' <;> exact ⟨fun _ => Nat.one_pos, fun _ => Nat.le_refl 0⟩)
    (wait_slot c _ false 0 1) (wait_slot c _ false 1 0)) $$ [HsL HL HO]
  · isplitr; · iexact HS
    isplitl [HsL]; · iexact HsL
    isplitl [HL]; · iexact HL
    iexact HO
  iintro ⟨HL, HO⟩
  ihave HT := (BIBase.Entails.of_eq (have_eq E c 0 _ I (rounds E c (scaled X R I) I (shared X S) 0)).symm) $$ [HR HL HO HW]
  · isplitl [HR]; · iexact HR
    isplitl [HL]; · iexact HL
    isplitl [HO]; · iexact HO
    iexact HW
  iapply (wp_return E K c _ _ 0 _ I _ (by decide) (dev_left (k0_dev5_eq c)) (dev_right (k0_dev6_eq c)) rfl rfl) $$ [HT]
  · isplitr; · iexact HS
    iexact HT
  iintro HT
  -- hop 1
  simp only [Prog.bind_op, Prog.bind_ret, k0_part22_eq_skeleton, k0_part23_eq_skeleton, k0_part24_eq_skeleton]; unfold k0_part22_skel k0_part23_skel k0_part24_skel
  simp only [semSignalWord, semWaitWord, Prog.lift, Prog.bind_op, Prog.bind_ret, Prog.pure_eq_ret, bind_assoc]
  iapply (wp_round E K c _ _ 0 (by decide) (wordR c 1) (wordL c 1) _ I _ (dev_right (k0_dev7_eq c)) (dev_left (k0_dev8_eq c))
    (wpE_semWait_eq 𝒱₀ (c : Thread nD τ) none Set.univ) (wpE_semWait_eq 𝒱₀ (c : Thread nD τ) none Set.univ)
    (wait_slot c _ true 1 0) (wait_slot c _ true 0 1) (wait_slot c _ false 1 0) (wait_slot c _ false 0 1)
    rfl rfl rfl rfl (hsrc := slot_exact _ _) (hdst := slot_exact _ _) rfl rfl rfl rfl (hsrcL := slot_exact _ _) (hdstL := slot_exact _ _)
    (by decide +kernel) (by decide +kernel)
    (fun B t u => tile_step true 1 c fullShare.right (wordR c 1) (E (own true c 1)) _ I B ⟨t.val, Nat.lt_of_lt_of_le t.isLt k0_t3_abs.2.1⟩
      (k0_off7_eq t) (k0_off8_eq t) (k0_off9_eq t))
    (fun B t u => tile_step false 1 c fullShare.right (wordL c 1) (E (own false c 1)) _ I B ⟨t.val, Nat.lt_of_lt_of_le t.isLt k0_t4_abs.2.1⟩
      (k0_off10_eq t) (k0_off11_eq t) (k0_off12_eq t))) $$ [HT]
  · isplitr; · iexact HS
    iexact HT
  iintro HT
  iapply (wp_return E K c _ _ 1 _ I _ (by decide) (dev_left (k0_dev9_eq c)) (dev_right (k0_dev10_eq c)) rfl rfl) $$ [HT]
  · isplitr; · iexact HS
    iexact HT
  iintro HT
  -- hop 2
  simp only [Prog.bind_op, Prog.bind_ret, k0_part25_eq_skeleton, k0_part26_eq_skeleton, k0_part27_eq_skeleton]; unfold k0_part25_skel k0_part26_skel k0_part27_skel
  simp only [semSignalWord, semWaitWord, Prog.lift, Prog.bind_op, Prog.bind_ret, Prog.pure_eq_ret, bind_assoc]
  iapply (wp_round E K c _ _ 1 (by decide) (wordR c 2) (wordL c 2) _ I _ (dev_right (k0_dev11_eq c)) (dev_left (k0_dev12_eq c))
    (wpE_semWait_eq 𝒱₀ (c : Thread nD τ) none Set.univ) (wpE_semWait_eq 𝒱₀ (c : Thread nD τ) none Set.univ)
    (wait_slot c _ true 0 1) (wait_slot c _ true 1 0) (wait_slot c _ false 0 1) (wait_slot c _ false 1 0)
    rfl rfl rfl rfl (hsrc := slot_exact _ _) (hdst := slot_exact _ _) rfl rfl rfl rfl (hsrcL := slot_exact _ _) (hdstL := slot_exact _ _)
    (by decide +kernel) (by decide +kernel)
    (fun B t u => tile_step true 0 c fullShare.right (wordR c 2) (E (own true c 2)) _ I B ⟨t.val, Nat.lt_of_lt_of_le t.isLt k0_t5_abs.2.1⟩
      (k0_off13_eq t) (k0_off14_eq t) (k0_off15_eq t))
    (fun B t u => tile_step false 0 c fullShare.right (wordL c 2) (E (own false c 2)) _ I B ⟨t.val, Nat.lt_of_lt_of_le t.isLt k0_t6_abs.2.1⟩
      (k0_off16_eq t) (k0_off17_eq t) (k0_off18_eq t))) $$ [HT]
  · isplitr; · iexact HS
    iexact HT
  iintro HT
  iapply (wp_return E K c _ _ 2 _ I _ (by decide) (dev_left (k0_dev13_eq c)) (dev_right (k0_dev14_eq c)) rfl rfl) $$ [HT]
  · isplitr; · iexact HS
    iexact HT
  iintro HT
  -- hop 3
  simp only [Prog.bind_op, Prog.bind_ret, k0_part28_eq_skeleton, k0_part29_eq_skeleton]; unfold k0_part28_skel k0_part29_skel
  simp only [semSignalWord, semWaitWord, Prog.lift, Prog.bind_op, Prog.bind_ret, Prog.pure_eq_ret, bind_assoc]
  iapply (wp_round E K c _ _ 2 (by decide) (wordR c 3) (wordL c 3) _ I _ (dev_right (k0_dev15_eq c)) (dev_left (k0_dev16_eq c))
    (wpE_semWait_eq 𝒱₀ (c : Thread nD τ) none Set.univ) (wpE_semWait_eq 𝒱₀ (c : Thread nD τ) none Set.univ)
    (wait_slot c _ true 1 0) (wait_slot c _ true 0 1) (wait_slot c _ false 1 0) (wait_slot c _ false 0 1)
    rfl rfl rfl rfl (hsrc := slot_exact _ _) (hdst := slot_exact _ _) rfl rfl rfl rfl (hsrcL := slot_exact _ _) (hdstL := slot_exact _ _)
    (by decide +kernel) (by decide +kernel)
    (fun B t u => tile_step true 1 c fullShare.right (wordR c 3) (E (own true c 3)) _ I B ⟨t.val, Nat.lt_of_lt_of_le t.isLt k0_t7_abs.2.1⟩
      (k0_off19_eq t) (k0_off20_eq t) (k0_off21_eq t))
    (fun B t u => tile_step false 1 c fullShare.right (wordL c 3) (E (own false c 3)) _ I B ⟨t.val, Nat.lt_of_lt_of_le t.isLt k0_t8_abs.2.1⟩
      (k0_off22_eq t) (k0_off23_eq t) (k0_off24_eq t))) $$ [HT]
  · isplitr; · iexact HS
    iexact HT
  iintro HT
  iapply (wp_return E K c _ _ 3 _ I _ (by decide) (dev_left (k0_dev17_eq c)) (dev_right (k0_dev18_eq c)) rfl rfl) $$ [HT]
  · isplitr; · iexact HS
    iexact HT
  iintro HT
  -- hop 4
  simp only [Prog.bind_op, Prog.bind_ret, k0_part30_eq_skeleton, k0_part31_eq_skeleton, k0_part32_eq_skeleton]; unfold k0_part30_skel k0_part31_skel k0_part32_skel
  simp only [semSignalWord, semWaitWord, Prog.lift, Prog.bind_op, Prog.bind_ret, Prog.pure_eq_ret, bind_assoc]
  iapply (wp_round E K c _ _ 3 (by decide) (wordR c 4) (wordL c 4) _ I _ (dev_right (k0_dev19_eq c)) (dev_left (k0_dev20_eq c))
    (wpE_semWait_eq 𝒱₀ (c : Thread nD τ) none Set.univ) (wpE_semWait_eq 𝒱₀ (c : Thread nD τ) none Set.univ)
    (wait_slot c _ true 0 1) (wait_slot c _ true 1 0) (wait_slot c _ false 0 1) (wait_slot c _ false 1 0)
    rfl rfl rfl rfl (hsrc := slot_exact _ _) (hdst := slot_exact _ _) rfl rfl rfl rfl (hsrcL := slot_exact _ _) (hdstL := slot_exact _ _)
    (by decide +kernel) (by decide +kernel)
    (fun B t u => tile_step true 0 c fullShare.right (wordR c 4) (E (own true c 4)) _ I B ⟨t.val, Nat.lt_of_lt_of_le t.isLt k0_t9_abs.2.1⟩
      (k0_off25_eq t) (k0_off26_eq t) (k0_off27_eq t))
    (fun B t u => tile_step false 0 c fullShare.right (wordL c 4) (E (own false c 4)) _ I B ⟨t.val, Nat.lt_of_lt_of_le t.isLt k0_t10_abs.2.1⟩
      (k0_off28_eq t) (k0_off29_eq t) (k0_off30_eq t))) $$ [HT]
  · isplitr; · iexact HS
    iexact HT
  iintro HT
  iapply (wp_return E K c _ _ 4 _ I _ (by decide) (dev_left (k0_dev21_eq c)) (dev_right (k0_dev22_eq c)) rfl rfl) $$ [HT]
  · isplitr; · iexact HS
    iexact HT
  iintro HT
  -- hop 5
  simp only [Prog.bind_op, Prog.bind_ret, k0_part33_eq_skeleton, k0_part34_eq_skeleton, k0_part35_eq_skeleton]; unfold k0_part33_skel k0_part34_skel k0_part35_skel
  simp only [semSignalWord, semWaitWord, Prog.lift, Prog.bind_op, Prog.bind_ret, Prog.pure_eq_ret, bind_assoc]
  iapply (wp_round E K c _ _ 4 (by decide) (wordR c 5) (wordL c 5) _ I _ (dev_right (k0_dev23_eq c)) (dev_left (k0_dev24_eq c))
    (wpE_semWait_eq 𝒱₀ (c : Thread nD τ) none Set.univ) (wpE_semWait_eq 𝒱₀ (c : Thread nD τ) none Set.univ)
    (wait_slot c _ true 1 0) (wait_slot c _ true 0 1) (wait_slot c _ false 1 0) (wait_slot c _ false 0 1)
    rfl rfl rfl rfl (hsrc := slot_exact _ _) (hdst := slot_exact _ _) rfl rfl rfl rfl (hsrcL := slot_exact _ _) (hdstL := slot_exact _ _)
    (by decide +kernel) (by decide +kernel)
    (fun B t u => tile_step true 1 c fullShare.right (wordR c 5) (E (own true c 5)) _ I B ⟨t.val, Nat.lt_of_lt_of_le t.isLt k0_t11_abs.2.1⟩
      (k0_off31_eq t) (k0_off32_eq t) (k0_off33_eq t))
    (fun B t u => tile_step false 1 c fullShare.right (wordL c 5) (E (own false c 5)) _ I B ⟨t.val, Nat.lt_of_lt_of_le t.isLt k0_t12_abs.2.1⟩
      (k0_off34_eq t) (k0_off35_eq t) (k0_off36_eq t))) $$ [HT]
  · isplitr; · iexact HS
    iexact HT
  iintro HT
  iapply (wp_return E K c _ _ 5 _ I _ (by decide) (dev_left (k0_dev25_eq c)) (dev_right (k0_dev26_eq c)) rfl rfl) $$ [HT]
  · isplitr; · iexact HS
    iexact HT
  iintro HT
  -- hop 6
  simp only [Prog.bind_op, Prog.bind_ret, k0_part36_eq_skeleton, k0_part37_eq_skeleton]; unfold k0_part36_skel k0_part37_skel
  simp only [semSignalWord, semWaitWord, Prog.lift, Prog.bind_op, Prog.bind_ret, Prog.pure_eq_ret, bind_assoc]
  iapply (wp_round E K c _ _ 5 (by decide) (wordR c 6) (wordL c 6) _ I _ (dev_right (k0_dev27_eq c)) (dev_left (k0_dev28_eq c))
    (wpE_semWait_eq 𝒱₀ (c : Thread nD τ) none Set.univ) (wpE_semWait_eq 𝒱₀ (c : Thread nD τ) none Set.univ)
    (wait_slot c _ true 0 1) (wait_slot c _ true 1 0) (wait_slot c _ false 0 1) (wait_slot c _ false 1 0)
    rfl rfl rfl rfl (hsrc := slot_exact _ _) (hdst := slot_exact _ _) rfl rfl rfl rfl (hsrcL := slot_exact _ _) (hdstL := slot_exact _ _)
    (by decide +kernel) (by decide +kernel)
    (fun B t u => tile_step true 0 c fullShare.right (wordR c 6) (E (own true c 6)) _ I B ⟨t.val, Nat.lt_of_lt_of_le t.isLt k0_t13_abs.2.1⟩
      (k0_off37_eq t) (k0_off38_eq t) (k0_off39_eq t))
    (fun B t u => tile_step false 0 c fullShare.right (wordL c 6) (E (own false c 6)) _ I B ⟨t.val, Nat.lt_of_lt_of_le t.isLt k0_t14_abs.2.1⟩
      (k0_off40_eq t) (k0_off41_eq t) (k0_off42_eq t))) $$ [HT]
  · isplitr; · iexact HS
    iexact HT
  iintro HT
  -- hop 7, to the right only
  unfold Have
  icases HT with ⟨HR, HL, HO, HW⟩
  iapply (step_free E K true c _ 6 (st 7 6 7 6) (st 7 7 7 6) (dev_left (k0_dev29_eq c)) (by decide) rfl rfl rfl rfl) $$ [HR HO]
  · isplitr; · iexact HS
    isplitl [HR] <;> iassumption
  iintro ⟨HR, HO⟩
  simp only [Prog.bind_op, Prog.bind_ret, k0_part38_eq_skeleton]; unfold k0_part38_skel
  simp only [semSignalWord, semWaitWord, Prog.lift, Prog.bind_op, Prog.bind_ret, Prog.pure_eq_ret, bind_assoc]
  iapply (wp_next E K true c _ 6 (st 7 7 7 6) (st 8 7 7 6) (dev_right (k0_dev30_eq c)) (by decide)
    (fun b' => by cases b' <;> exact ⟨fun _ => by decide, fun _ => by first | decide | contradiction⟩) rfl rfl rfl
    (wpE_semWait_eq 𝒱₀ (c : Thread nD τ) none Set.univ) rfl rfl rfl rfl (hsrc := slot_exact _ _) (hdst := slot_exact _ _)) $$ [HR HO]
  · isplitr; · iexact HS
    isplitl [HR] <;> iassumption
  iintro ⟨HsR, HR, HO⟩
  iapply (wp_mult E true c 7 fullShare.right (wordR c 7) _ I _ (by decide +kernel)
    (fun t u => tile_step true 1 c fullShare.right (wordR c 7) (E (own true c 7)) _ I _ ⟨t.val, Nat.lt_of_lt_of_le t.isLt k0_t15_abs.2.1⟩
      (k0_off43_eq t) (k0_off44_eq t) (k0_off45_eq t))) $$ [HsR HW]
  · isplitl [HsR] <;> iassumption
  iintro ⟨HsR, HW⟩
  ihave HL := (got_slot E false c 6) $$ HL
  icases HL with ⟨HsL, HL⟩
  iapply (wp_mult E false c 7 fullShare (wordL c 7) _ I _ (by decide +kernel)
    (fun t u => tile_step false 1 c fullShare (wordL c 7) (E (own false c 7)) _ I _ ⟨t.val, Nat.lt_of_lt_of_le t.isLt k0_t16_abs.2.1⟩
      (k0_off46_eq t) (k0_off47_eq t) (k0_off48_eq t))) $$ [HsL HW]
  · isplitl [HsL] <;> iassumption
  iintro ⟨HsL, HW⟩
  ihave HL := HL $$ HsL
  iapply (wp_arrive E K true c 7 (st 8 7 7 6) (by decide)
    (fun b' => by cases b' <;> exact ⟨fun _ => by first | decide | contradiction, fun _ => by first | decide | contradiction⟩)
    (wait_slot c _ true 1 0) (wait_slot c _ true 0 1)) $$ [HsR HR HO]
  · isplitr; · iexact HS
    isplitl [HsR]; · iexact HsR
    isplitl [HR] <;> iassumption
  iintro ⟨HR, HO⟩
  ihave HR := (got_slot E true c 7) $$ HR
  icases HR with ⟨HsR, HR⟩
  iapply (wp_mult E true c 8 fullShare (wordR c 8) _ I _ (by decide +kernel)
    (fun t u => tile_step true 0 c fullShare (wordR c 8) (E (own true c 8)) _ I _ ⟨t.val, Nat.lt_of_lt_of_le t.isLt k0_t17_abs.2.1⟩
      (k0_off49_eq t) (k0_off50_eq t) (k0_off51_eq t))) $$ [HsR HW]
  · isplitl [HsR] <;> iassumption
  iintro ⟨HsR, HW⟩
  ihave HR := HR $$ HsR
  -- the end
  ihave HF := (finish E c) $$ [HR HL]
  · isplitl [HR] <;> iassumption
  icases HF with ⟨Hslots, HlR, HlL⟩
  imod (close_all E K c) $$ [HaB HlR HlL] with HZ
  · isplitr; · iexact HS
    isplitl [HaB]; · iexact HaB
    isplitl [HlR] <;> iassumption
  rw [wp_ret]; imodintro
  unfold Work
  icases HW with ⟨Hxs, Hi, Ho⟩
  iapply Hk
  isplitl [HZ]; · iexact HZ
  isplitl [HO]; · iexact HO
  isplitl [Hx Hr Hi He Hsh Ho]
  · isplitl [Hx]; · iexact Hx
    isplitl [Hr]; · iexact Hr
    isplitl [Hi]; · iexact Hi
    isplitl [He]; · iexact He
    isplitl [Hsh]; · iexact Hsh
    iexact Ho
  isplitl [Hxs Hsw]
  · isplitl [Hxs]; · iexact Hxs
    unfold swPts; iexact Hsw
  iexact Hslots

end Cert.KernelIdeal.Ring

end
-- ==== Proof.Agree.lean ====
/-
The kernel's result on a device's rows is the reference's result on those rows.
-/
module

public import proofs.«01_k».proof.Proof.KernelTerm
public import proofs.«01_k».proof.Proof.RefTerm
public import proofs.«01_k».proof.Proof.Body

@[expose] public section

set_option maxRecDepth 16384

noncomputable section

namespace Cert.KernelIdeal.Ring

open Cert.KernelIdeal Cert.KernelIdeal.Gen
open Idealize.ShloMosaic

variable (X : (Rows 512).Idx → EReal) (R : S512x64.Idx → EReal) (I : (Rows 1).Idx → BitVec 32) (S : S512x1024.Idx → EReal)
  (E : Dev nD → S4x512x1024.Idx → EReal) (c : Dev nD)

/-- The kernel's result at row `i`, column `f`. -/
theorem answer_apply (i : Fin 2048) (f : Fin 1024) :
    answer (F := Ideal) E c X R I S (ix2 i f) = (∑ k, X (ix2 i k) * S (ix2 k f)) + ∑ d, part (scaled (F := Ideal) X R I) I d (E d) i f := by
  unfold answer
  rw [total_apply, shared_apply]

/-- A row whose expert is `j`, its products with every expert `w`. -/
theorem answer_in (w : Fin 64 → Fin 512 → Fin 1024 → EReal) (hE : ∀ d k a f, E d (ix3 k a f) = w (Moe.expert d k) a f)
    (i : Fin 2048) (f : Fin 1024) (hx : ∀ k, Moe.IsReal (X (ix2 i k))) (hR : ∀ k a, Moe.IsReal (R (ix2 k a)))
    (j : Fin 64) (hj : I (ix2 i 0) = BitVec.ofNat 32 j.val) :
    answer (F := Ideal) E c X R I S (ix2 i f) = (∑ k, X (ix2 i k) * S (ix2 k f))
      + Moe.prob (fun k => X (ix2 i k)) (fun k a => R (ix2 k a)) j * ∑ k, X (ix2 i k) * w j k f := by
  obtain ⟨h0, ht⟩ := Moe.prob_range (n := 63) (fun k => X (ix2 i k)) (fun k a => R (ix2 k a)) hx hR j
  rw [answer_apply]
  unfold part
  simp only [scaled_apply, Moe.one_hot (I (ix2 i 0)) (Moe.prob (fun k => X (ix2 i k)) (fun k a => R (ix2 k a))) j hj, hE]
  refine congrArg (_ + ·) ?_
  refine Eq.trans ?_ (Moe.sum_experts (I (ix2 i 0))
    (fun a => Moe.prob (fun k => X (ix2 i k)) (fun k a => R (ix2 k a)) j * ∑ k, X (ix2 i k) * w a k f) j hj)
  refine Finset.sum_congr rfl fun d _ => Finset.sum_congr rfl fun k _ => ?_
  rw [Moe.scaled_product _ h0 ht (fun k => X (ix2 i k))]

/-- A row whose expert is none of the 64. -/
theorem answer_out (i : Fin 2048) (f : Fin 1024) (h : ∀ j : Fin 64, I (ix2 i 0) ≠ BitVec.ofNat 32 j.val) :
    answer (F := Ideal) E c X R I S (ix2 i f) = ∑ k, X (ix2 i k) * S (ix2 k f) := by
  rw [answer_apply]
  unfold part
  refine (congrArg (_ + ·) ?_).trans (add_zero _)
  refine Finset.sum_eq_zero fun d _ => Finset.sum_eq_zero fun k _ => if_neg (h _)

/-- Row `i` of device `c` among all the rows. -/
def rowOf (c : Dev nD) (i : Fin 2048) : Fin 32768 := ⟨c.val * 2048 + i.val, by have : c.val < 16 := c.isLt; have := i.isLt; omega⟩

/-- The kernel's result at a row is the reference's at that row of the whole. -/
theorem agree (x : Vec Ideal Cert.ReferenceIdeal.S32768x512 .bf16) (r : Vec Ideal Cert.ReferenceIdeal.S512x64 .bf16)
    (e : Vec Ideal Cert.ReferenceIdeal.S32768x1 .i32) (w : Vec Ideal Cert.ReferenceIdeal.S64x512x1024 .bf16)
    (s : Vec Ideal Cert.ReferenceIdeal.S512x1024 .bf16)
    (hX : ∀ i k, X (ix2 i k) = x (ix2 (rowOf c i) k)) (hR : ∀ k a, R (ix2 k a) = r (ix2 k a))
    (hI : ∀ i, I (ix2 i 0) = e (ix2 (rowOf c i) 0)) (hE : ∀ d k a f, E d (ix3 k a f) = w (ix3 (Moe.expert d k) a f))
    (hS : ∀ k f, S (ix2 k f) = s (ix2 k f))
    (fx : ∀ i k, Moe.IsReal (X (ix2 i k))) (fR : ∀ k a, Moe.IsReal (R (ix2 k a))) (i : Fin 2048) (f : Fin 1024) :
    answer (F := Ideal) E c X R I S (ix2 i f) = Cert.ReferenceIdeal.Mix.result x r e w s (ix2 (rowOf c i) f) := by
  by_cases h : ∃ j : Fin 64, I (ix2 i 0) = BitVec.ofNat 32 j.val
  · obtain ⟨j, hj⟩ := h
    rw [answer_in X R I S E c (fun a k f => w (ix3 a k f)) hE i f (fx i) fR j hj,
      Cert.ReferenceIdeal.Mix.result_in x r e w s (rowOf c i) f j ((hI i).symm.trans hj)]
    simp only [hX, hR, hS]
  · have h' : ∀ j : Fin 64, I (ix2 i 0) ≠ BitVec.ofNat 32 j.val := fun j hj => h ⟨j, hj⟩
    rw [answer_out X R I S E c i f h',
      Cert.ReferenceIdeal.Mix.result_out x r e w s (rowOf c i) f (fun j hj => h' j ((hI i).trans hj))]
    simp only [hX, hS]

end Cert.KernelIdeal.Ring

end
-- ==== Proof.Fund.lean ====
/-
What the launch deals out: every semaphore's rounds, the duty tokens sent around the ring to the devices that pay them,
and the credit of what the devices owe one another.
-/
module

public import proofs.«01_k».proof.Proof.Body

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (E : Dev nD → S4x512x1024.Idx → Elt F .bf16)

/-! ## Cells and tokens -/

theorem cell_injective : Function.Injective fun p : Dev nD × Kind => cell p.2 p.1 := fun p q h => Prod.ext (cell_inj h).2 (cell_inj h).1

def ringCells : Finset (GSem nD τ sig) := Finset.univ.map ⟨fun p : Dev nD × Kind => cell p.2 p.1, cell_injective⟩

/-- A token's place: a barrier duty, or a direction's send, arrival or returned slot of a hop. -/
abbrev Place : Type := Bool ⊕ (Bool × Fin 3 × Fin 8)

/-- The semaphore, round and duty of a place. -/
def duty : Place → Kind × ℕ × Bool
  | .inl d => (.bar, 0, d)
  | .inr (b, 0, h) => (.send b (par h.val), h.val / 2, false)
  | .inr (b, 1, h) => (.recv b (par (h.val + 1)), h.val / 2, false)
  | .inr (b, 2, h) => (.free b, h.val, false)

theorem duty_injective : Function.Injective duty := by decide

theorem tok_injective : Function.Injective fun p : Dev nD × Place => ((cell (duty p.2).1 p.1, (duty p.2).2) : GSem nD τ sig × ℕ × Bool) := fun p q h => by
  have h1 := cell_inj (congrArg Prod.fst h)
  exact Prod.ext h1.2 (duty_injective (Prod.ext h1.1 (congrArg (fun x : GSem nD τ sig × ℕ × Bool => x.2) h)))

def ringToks : Finset (GSem nD τ sig × ℕ × Bool) := Finset.univ.map ⟨_, tok_injective⟩

/-- The tokens of a device's own semaphores. -/
def toks (c : Dev nD) : sProp 𝕄 := bigSep Finset.univ fun p : Place => dutyTok ER (cell (duty p).1 c) (duty p).2.1 (duty p).2.2

omit [FloatOps F] in
/-- Of something for each of eight hops, the first `n`. -/
theorem first_hops (Φ : ℕ → sProp 𝕄) {n : ℕ} (hn : n ≤ 8) : (bigSep Finset.univ fun h : Fin 8 => Φ h.val) ⊢ bigSep (Finset.Ico 0 n) Φ := by
  have h : (bigSep Finset.univ fun h : Fin 8 => Φ h.val) = bigSep (Finset.Ico 0 8) Φ := by
    rw [show Finset.Ico 0 8 = Finset.univ.map (Fin.valEmbedding (n := 8)) from by decide, bigSep_map]; rfl
  rw [h]
  exact bigSep_subset (Finset.Ico_subset_Ico_right hn)

omit [FloatOps F] in
theorem bigSep_bool (Φ : Bool → sProp 𝕄) : bigSep Finset.univ Φ = iprop(Φ true ∗ Φ false) := bigSep_univ_eq_bigSepL [true, false] (by decide) (by decide) Φ
omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- A direction's tokens of a device's own semaphores; -/
def ownToks (b : Bool) (c : Dev nD) : sProp 𝕄 :=
  iprop((bigSep (Finset.Ico 0 (hops b)) fun i => dutyTok ER (sendC b c i) (i / 2) false)
    ∗ (bigSep (Finset.Ico 0 (hops b)) fun i => dutyTok ER (recvC b c i) (i / 2) false)
    ∗ bigSep (Finset.Ico 0 (hops b - 1)) fun i => dutyTok ER (freeC b c) i false)

/-- and those of the duties it pays. -/
def payToks (b : Bool) (c : Dev nD) : sProp 𝕄 := iprop(dutyTok ER (barC (back b c)) 0 b ∗ sendToks b c 0 ∗ freeToks b c 0)

omit [FloatOps F] in
theorem toks_split (c : Dev nD) : (toks c : sProp 𝕄)
    ⊢ iprop((dutyTok ER (barC c) 0 true ∗ ownToks true c) ∗ dutyTok ER (barC c) 0 false ∗ ownToks false c) := by
  have hd (b : Bool) : (bigSep Finset.univ fun p : Fin 3 × Fin 8 =>
      (dutyTok ER (cell (duty (.inr (b, p))).1 c) (duty (.inr (b, p))).2.1 (duty (.inr (b, p))).2.2 : sProp 𝕄)) ⊢ ownToks b c := by
    rw [bigSep_univ_prod, bigSep_three]
    unfold ownToks
    iintro ⟨H1, H2, H3⟩
    isplitl [H1]; · iapply (first_hops (F := F) (fun i => dutyTok ER (sendC b c i) (i / 2) false) (hops_le b)); iexact H1
    isplitl [H2]; · iapply (first_hops (F := F) (fun i => dutyTok ER (recvC b c i) (i / 2) false) (hops_le b)); iexact H2
    iapply (first_hops (F := F) (fun i => dutyTok ER (freeC b c) i false) (show hops b - 1 ≤ 8 by have := hops_le b; omega)); iexact H3
  unfold toks
  rw [bigSep_univ_sum, bigSep_bool, bigSep_univ_prod (α := Bool), bigSep_bool]
  show iprop((dutyTok ER (barC c) 0 true ∗ dutyTok ER (barC c) 0 false) ∗ _ ∗ _) ⊢ _
  iintro ⟨⟨B1, B2⟩, D1, D2⟩
  isplitl [B1 D1]
  · isplitl [B1]; · iexact B1
    iapply (hd true); iexact D1
  isplitl [B2]; · iexact B2
  iapply (hd false); iexact D2

omit [FloatOps F] in
/-- A direction's tokens dealt around the ring. -/
theorem toks_turn (b : Bool) : (bigSep Finset.univ fun c : Dev nD => iprop(dutyTok ER (barC c) 0 b ∗ ownToks b c))
    ⊢ (bigSep Finset.univ fun c : Dev nD => payToks b c : sProp 𝕄) := by
  unfold ownToks payToks sendToks freeToks
  simp only [bigSep_sep']
  rw [bigSep_univ_equiv (turn b).symm (fun c : Dev nD => (dutyTok ER (barC c) 0 b : sProp 𝕄)),
    bigSep_univ_equiv (turn b) (fun c : Dev nD => (bigSep (Finset.Ico 0 (hops b)) fun i => dutyTok ER (recvC b c i) (i / 2) false : sProp 𝕄)),
    bigSep_univ_equiv (turn b).symm (fun c : Dev nD => (bigSep (Finset.Ico 0 (hops b - 1)) fun i => dutyTok ER (freeC b c) i false : sProp 𝕄))]
  iintro ⟨H1, H2, H3, H4⟩
  isplitl [H1]; · iexact H1
  isplitl [H2 H3]
  · isplitl [H2]; · iexact H2
    iexact H3
  iexact H4

omit [FloatOps F] in
theorem toks_around : (bigSep Finset.univ fun c : Dev nD => (toks c : sProp 𝕄))
    ⊢ bigSep Finset.univ fun c : Dev nD => iprop(payToks true c ∗ payToks false c) := by
  refine BIBase.Entails.trans (bigSep_mono fun c _ => toks_split c) ?_
  rw [bigSep_sep' Finset.univ (fun c : Dev nD => (iprop(dutyTok ER (barC c) 0 true ∗ ownToks true c) : sProp 𝕄)) (fun c => iprop(dutyTok ER (barC c) 0 false ∗ ownToks false c)),
    bigSep_sep' Finset.univ (fun c : Dev nD => (payToks true c : sProp 𝕄)) (fun c => payToks false c)]
  iintro ⟨H1, H2⟩
  isplitl [H1]
  · iapply (toks_turn (F := F) true); iexact H1
  · iapply (toks_turn (F := F) false); iexact H2

/-! ## Credit -/

omit [FloatOps F] in
theorem cred_finsum (s : Finset ℕ) (T : ℕ → CellTallies nD τ sig ℕ) : (cred (∑ i ∈ s, T i) : sProp 𝕄) = bigSep s fun i => cred (T i) := by
  induction s using Finset.induction_on with
  | empty => rw [Finset.sum_empty, cred_zero, bigSep_empty]; rfl
  | insert i s hi ih => rw [Finset.sum_insert hi, bigSep_insert hi, BI.Entails.antisymm (cred_add _ _).1 (cred_add _ _).2, ih]; rfl

/-- What the others owe a device: in one direction, -/
def claim (b : Bool) (c : Dev nD) : CellTallies nD τ sig ℕ :=
  (∑ h ∈ Finset.Ico 0 (hops b), tallyAt (recvC b c h) h N) + ∑ h ∈ Finset.Ico 0 (hops b - 1), tallyAt (freeC b c) h 1
/-- and in all. -/
def claims (c : Dev nD) : CellTallies nD τ sig ℕ := claim true c + claim false c + tallyAt (barC c) 0 1 + tallyAt (barC c) 0 1

theorem sum_due (b : Bool) : ∑ c : Dev nD, due b c 0 0 = ∑ c : Dev nD, claim b c := by
  unfold due claim
  rw [Finset.sum_add_distrib, Finset.sum_add_distrib,
    ← Equiv.sum_comp (turn b) (fun c => ∑ h ∈ Finset.Ico 0 (hops b), (tallyAt (recvC b c h) h N : CellTallies nD τ sig ℕ)),
    ← Equiv.sum_comp (turn b).symm (fun c => ∑ h ∈ Finset.Ico 0 (hops b - 1), (tallyAt (freeC b c) h 1 : CellTallies nD τ sig ℕ))]
  rfl

/-- Everything owed is everything claimed. -/
theorem sum_owed : ∑ c : Dev nD, O₀ c = ∑ c : Dev nD, claims c := by
  unfold O₀ O₁ O₂ dues claims
  simp only [Finset.sum_add_distrib]
  rw [sum_due, sum_due, ← Equiv.sum_comp (turn true) (fun c => (tallyAt (barC c) 0 1 : CellTallies nD τ sig ℕ))]
  congr 1
  exact (Equiv.sum_comp (turn false) (fun c => (tallyAt (barC c) 0 1 : CellTallies nD τ sig ℕ))).trans
    (Equiv.sum_comp (turn true) (fun c => (tallyAt (barC c) 0 1 : CellTallies nD τ sig ℕ))).symm

theorem claim_at {b : Bool} {c : Dev nD} {g : GSem nD τ sig} {u : ℕ} (h : 0 < claim b c g u) : g.1 = (c : Thread nD τ) := by
  unfold claim at h
  rw [Pi.add_apply, Finsupp.add_apply] at h
  rcases Nat.add_pos_iff_pos_or_pos.mp h with h | h <;>
  · obtain ⟨i, -, hp⟩ := sum_pos h
    rw [(tally_pos hp).1]

theorem claims_at (c : Dev nD) (g : GSem nD τ sig) (h : claims c g ≠ 0) : g.1 = (c.tc : Thread nD τ) := by
  obtain ⟨u, hu⟩ := DFunLike.ne_iff.mp h
  have hp : 0 < claims c g u := Nat.pos_of_ne_zero hu
  unfold claims at hp
  simp only [Pi.add_apply, Finsupp.add_apply] at hp
  rcases Nat.add_pos_iff_pos_or_pos.mp hp with hp | hp
  · rcases Nat.add_pos_iff_pos_or_pos.mp hp with hp | hp
    · rcases Nat.add_pos_iff_pos_or_pos.mp hp with hp | hp <;> exact claim_at hp
    · rw [(tally_pos hp).1]
  · rw [(tally_pos hp).1]

omit [FloatOps F] in
theorem cred_plus (S T : CellTallies nD τ sig ℕ) : (cred (S + T) : sProp 𝕄) = iprop(cred S ∗ cred T) :=
  BI.Entails.antisymm (cred_add _ _).1 (cred_add _ _).2

omit [FloatOps F] in
/-- A device's credit at launch. -/
theorem creds (c : Dev nD) : (Pipeline.launchCred O₀ c : sProp 𝕄)
    ⊢ iprop((recvCreds true c 0 ∗ freeCreds true c 0) ∗ (recvCreds false c 0 ∗ freeCreds false c 0) ∗ cred (tallyAt (barC c) 0 2)) := by
  rw [Pipeline.launchCred_of_sum O₀ claims sum_owed claims_at c]
  unfold claims claim recvCreds freeCreds
  rw [add_assoc _ (tallyAt (barC c) 0 1), tallyAt_add]
  simp only [cred_plus, cred_finsum]
  iintro ⟨⟨H1, H2⟩, H3⟩
  isplitl [H1]; · iexact H1
  isplitl [H2]; · iexact H2
  iexact H3

/-! ## What a device starts from -/

/-- All the semaphores of a device at round 0. -/
def zeroPos (c : Dev nD) : sProp 𝕄 := bigSep Finset.univ fun k : Kind => iprop(atPos ER (cell k c) 0 ∅ 0 ∗ reached ER (cell k c) 0)

def G (c : Dev nD) : sProp 𝕄 :=
  iprop((bigSep Finset.univ fun k : Kind => roundState ER (Rd E) (cell k c) 0) ∗ zeroPos c ∗ toks c)

/-- The invariants of all cells. -/
def Invs (K : Dev nD × Kind → ℕ) : sProp 𝕄 := bigSep Finset.univ fun p : Dev nD × Kind => cellInv ER (Rd E) (K p) (cell p.2 p.1)

instance Invs_persistent (K : Dev nD × Kind → ℕ) : BI.Persistent (Invs E K) := by unfold Invs; infer_instance

/-- After the invariants are allocated and the tokens dealt: positions and tokens, and that the neighbours' barriers are at round 0. -/
def linear (c : Dev nD) : sProp 𝕄 :=
  iprop(zeroPos c ∗ payToks true c ∗ payToks false c ∗ reached ER (barC (fwd false c)) 0 ∗ reached ER (barC (fwd true c)) 0)

def G' (c : Dev nD) : sProp 𝕄 := iprop(∃ K, Invs E K ∗ linear c)

omit [FloatOps F] in
theorem fund_ring : BI.own (ER (initOf ringCells ringToks)) ⊢ (|==> bigSep Finset.univ (G E) : sProp 𝕄) := by
  have hX (Φ : GSem nD τ sig → sProp 𝕄) : bigSep ringCells Φ = bigSep Finset.univ fun c : Dev nD => bigSep Finset.univ fun k : Kind => Φ (cell k c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd E) ringCells ringToks) $$ HX with ⟨Hst, Hr, Hat, Htok⟩
  imodintro
  ihave Hst' := (BIBase.Entails.of_eq (hX fun g => roundState ER (Rd E) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G zeroPos; simp only [bigSep_sep']
  isplitl [Hst']; · iexact Hst'
  isplitl [Hat' Hr']
  · isplitl [Hat'] <;> iassumption
  iexact Htok'

omit [FloatOps F] in
/-- A device's counters and rounds, as invariants. -/
theorem core_alloc (c : Dev nD) :
    iprop(Zeros c ∗ G E c) ⊢ |={Set.univ}=> iprop((bigSep Finset.univ fun k => iprop(∃ κ : ℕ, cellInv ER (Rd E) κ (cell k c))) ∗ zeroPos c ∗ toks c) := by
  unfold G Zeros
  iintro ⟨Hv, Hst, Hat, Htok⟩
  imod (show iprop((bigSep Finset.univ fun k : Kind => semVal (cell k c) 0) ∗ bigSep Finset.univ fun k : Kind => roundState ER (Rd E) (cell k c) 0)
      ⊢ (|={Set.univ}=> bigSep Finset.univ fun k => iprop(∃ κ : ℕ, cellInv ER (Rd E) κ (cell k c)) : sProp 𝕄) from by
        rw [← bigSep_sep']
        exact (bigSep_mono fun k _ => (Rounds.body_intro ER (Rd E) (cell k c)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem reached_at (c : Dev nD) :
    (bigSep Finset.univ fun p : Dev nD × Kind => (reached ER (cell p.2 p.1) 0 : sProp 𝕄)) ⊢ reached ER (barC c) 0 :=
  bigSep_elim (Finset.mem_univ (c, Kind.bar))

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd E) κ (cell k c))) ∗ zeroPos c ∗ toks c) : sProp 𝕄)
      ⊢ bigSep Finset.univ (G' E) := by
  have hr : (bigSep Finset.univ fun c : Dev nD => (zeroPos c : sProp 𝕄))
      ⊢ iprop((bigSep Finset.univ fun c : Dev nD => zeroPos c) ∗ bigSep Finset.univ fun p : Dev nD × Kind => reached ER (cell p.2 p.1) 0) := by
    unfold zeroPos
    rw [bigSep_congr (s := Finset.univ) (fun (c : Dev nD) _ => bigSep_sep' Finset.univ (fun k : Kind => (atPos ER (cell k c) 0 ∅ 0 : sProp 𝕄)) (fun k => reached ER (cell k c) 0)),
      bigSep_sep', bigSep_univ_prod (fun p : Dev nD × Kind => (reached ER (cell p.2 p.1) 0 : sProp 𝕄))]
    iintro ⟨Ha, #Hr⟩
    isplitl
    · isplitl; · iexact Ha
      iexact Hr
    iexact Hr
  rw [bigSep_sep', bigSep_sep', ← bigSep_univ_prod (fun p : Dev nD × Kind => iprop(∃ κ : ℕ, cellInv ER (Rd E) κ (cell p.2 p.1)))]
  iintro ⟨HI, Hat, Htok⟩
  ihave HK := (BI.bigSep_exists_pi Finset.univ (fun (p : Dev nD × Kind) (κ : ℕ) => (cellInv ER (Rd E) κ (cell p.2 p.1) : sProp 𝕄))) $$ HI
  icases HK with ⟨%K, #HI⟩
  ihave Htk := (toks_around (F := F)) $$ Htok
  ihave Hat := hr $$ Hat
  icases Hat with ⟨Hat, #HR⟩
  iapply (with_persistent (R := iprop(Invs E K ∗ bigSep Finset.univ fun p : Dev nD × Kind => reached ER (cell p.2 p.1) 0))
    (Φ := fun c : Dev nD => iprop(zeroPos c ∗ payToks true c ∗ payToks false c)) fun c _ => by
      unfold G' linear
      iintro ⟨⟨#HI, #HR⟩, Hz, H1, H2⟩
      iexists K
      isplitr; · iexact HI
      isplitl [Hz]; · iexact Hz
      isplitl [H1]; · iexact H1
      isplitl [H2]; · iexact H2
      isplitr; · iapply (reached_at (F := F) (fwd false c)); iexact HR
      iapply (reached_at (F := F) (fwd true c)); iexact HR)
  isplitr
  · isplitl; · unfold Invs; iexact HI
    iexact HR
  rw [bigSep_sep' Finset.univ (fun c : Dev nD => (zeroPos c : sProp 𝕄))]
  isplitl [Hat]; · iexact Hat
  iexact Htk

/-- A device's starting position: its seeds and what the barrier takes. -/
theorem seeds (c : Dev nD) :
    iprop(linear c ∗ (recvCreds true c 0 ∗ freeCreds true c 0) ∗ (recvCreds false c 0 ∗ freeCreds false c 0) ∗ cred (tallyAt (barC c) 0 2))
      ⊢ (iprop(Meet c ∗ Seed true c ∗ Seed false c) : sProp 𝕄) := by
  unfold linear zeroPos payToks Meet Seed sendPos recvPos freePos
  rw [bigSep_kind (F := F)]
  iintro ⟨⟨⟨⟨B, -⟩, S0, S1, V0, V1, Fr, S0', S1', V0', V1', Fr'⟩, ⟨T1, T2, T3⟩, ⟨T1', T2', T3'⟩, R1, R2⟩, ⟨C1, C2⟩, ⟨C1', C2'⟩, CB⟩
  isplitl [B CB T1 T1' R1 R2]
  · isplitl [B]; · iexact B
    isplitl [CB]; · iexact CB
    isplitl [T1 R1]
    · isplitl [T1]; · iexact T1
      iexact R1
    isplitl [T1']; · iexact T1'
    iexact R2
  isplitl [S0 S1 V0 V1 Fr T2 T3 C1 C2]
  · isplitl [S0 S1]
    · isplitl [S0]; · iexact S0
      iexact S1
    isplitl [V0 V1]
    · isplitl [V1]; · iexact V1
      iexact V0
    isplitl [Fr]; · iexact Fr
    isplitl [T2]; · iexact T2
    isplitl [C1]; · iexact C1
    isplitl [T3]; · iexact T3
    iexact C2
  isplitl [S0' S1']
  · isplitl [S0']; · iexact S0'
    iexact S1'
  isplitl [V0' V1']
  · isplitl [V1']; · iexact V1'
    iexact V0'
  isplitl [Fr']; · iexact Fr'
  isplitl [T2']; · iexact T2'
  isplitl [C1']; · iexact C1'
  isplitl [T3']; · iexact T3'
  iexact C2'

/-! ## The communication buffers, slot by slot -/

omit [FloatOps F] in
theorem slots_split (b : Bool) (c : Dev nD) (f : CommBuf (F := F)) :
    (((c : Thread nD τ).loc (commRef b)) ↦{fullShare} (show Buf (Elt F) ((c : Thread nD τ).loc (commRef b)) from (by cases b <;> exact f)) : sProp 𝕄)
      ⊢ iprop(slotPts b 0 c fullShare f ∗ slotPts b 1 c fullShare f) := by
  cases b <;>
  · unfold slotPts
    refine BIBase.Entails.trans ?_ (pointsTo_union slotSet_disjoint).1
    rw [slotSet_union]
    exact BIBase.Entails.refl

omit [FloatOps F] in
theorem slots_join (c : Dev nD) : (Slots c : sProp 𝕄)
    ⊢ iprop((∃ f : Buf (Elt F) ((c : Thread nD τ).loc cc0_scratch2), ((c : Thread nD τ).loc cc0_scratch2) ↦{fullShare} f)
        ∗ ∃ f : Buf (Elt F) ((c : Thread nD τ).loc cc0_scratch3), ((c : Thread nD τ).loc cc0_scratch3) ↦{fullShare} f) := by
  unfold Slots slotPts
  have hj (ℓ : Loc nD τ sig) (I J : Finset (Idx ℓ)) (f g : Buf (Elt F) ℓ) (hd : Disjoint I J) (hu : I ∪ J = Finset.univ) :
      iprop((ℓ ↦[I]{fullShare} f) ∗ ℓ ↦[J]{fullShare} g) ⊢ (iprop(∃ h : Buf (Elt F) ℓ, ℓ ↦{fullShare} h) : sProp 𝕄) := by
    refine (pointsTo_join hd).trans ?_
    rw [hu]
    iintro H; iexists _; iexact H
  iintro ⟨⟨⟨%f, H0⟩, ⟨%g, H1⟩⟩, ⟨%f', H2⟩, ⟨%g', H3⟩⟩
  isplitl [H0 H1]
  · iapply (hj ((c : Thread nD τ).loc cc0_scratch2) (slotSet 0) (slotSet 1) f g slotSet_disjoint slotSet_union)
    isplitl [H0] <;> iassumption
  · iapply (hj ((c : Thread nD τ).loc cc0_scratch3) (slotSet 0) (slotSet 1) f' g' slotSet_disjoint slotSet_union)
    isplitl [H2] <;> iassumption

end Cert.KernelIdeal.Ring

end
-- ==== Proof.Run.lean ====
/-
The launch: the body at its one point, the kernel's semaphores and buffers at entry and exit, and the run of @main.
-/
module

public import proofs.«01_k».proof.Proof.Fund
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The blocks a device is launched with -/

/-- The launch's start: memory `m`, all counters at zero. -/
abbrev mem₀ : MemSt nD τ sig (Elt F) := ⟨m, fun _ => 0, ρ⟩

/-- The token rows, -/
def xIn (c : Dev nD) : (Rows 512).Idx → Elt F .bf16 := (win0_0.blk (0 : Fin 1)).view.read (Elt F) (m ((c : Thread nD τ).loc main_arg0))
/-- the router, -/
def rIn (c : Dev nD) : S512x64.Idx → Elt F .bf16 := (win0_1.blk (0 : Fin 1)).view.read (Elt F) (m ((c : Thread nD τ).loc main_arg1))
/-- the chosen experts, -/
def iIn (c : Dev nD) : (Rows 1).Idx → Elt F .i32 := (win0_2.blk (0 : Fin 1)).view.read (Elt F) (m ((c : Thread nD τ).loc main_arg2))
/-- the four experts a device holds, -/
def eIn (c : Dev nD) : S4x512x1024.Idx → Elt F .bf16 := (win0_3.blk (0 : Fin 1)).view.read (Elt F) (m ((c : Thread nD τ).loc main_arg3))
/-- the shared expert, -/
def sIn (c : Dev nD) : S512x1024.Idx → Elt F .bf16 := (win0_4.blk (0 : Fin 1)).view.read (Elt F) (m ((c : Thread nD τ).loc main_arg4))
/-- and the result. -/
def out (c : Dev nD) : (Rows 1024).Idx → Elt F .f32 := answer (eIn m) c (xIn m c) (rIn m c) (iIn m c) (sIn m c)

/-! ## The point's data -/

/-- What a device has when the body starts, but for the buffers. -/
def start (c : Dev nD) : sProp 𝕄 := iprop((∃ K, Shared (eIn m) K) ∗ Meet c ∗ Seed true c ∗ Seed false c)

/-- The scratch buffers before the body -/
def scratchIn (c : Dev nD) : sProp 𝕄 :=
  iprop(((∃ f, xsPts c f) ∗ ∃ f, swPts c f) ∗ (∃ f, slotPts true 0 c fullShare f ∗ slotPts true 1 c fullShare f)
    ∗ ∃ f, slotPts false 0 c fullShare f ∗ slotPts false 1 c fullShare f)
/-- and after it. -/
def scratchOut (c : Dev nD) : sProp 𝕄 := iprop(((∃ f, xsPts c f) ∗ ∃ f, swPts c f) ∗ Slots c)

def Φ₀ (c : Dev nD) : sProp 𝕄 := iprop(start m c ∗ scratchIn c)
def Φ₁ (c : Dev nD) : sProp 𝕄 := iprop(Zeros c ∗ scratchOut c)

def dats (_ : Fin 1) (c : Dev nD) : Dat τ (Elt F) ℕ ℕ UU ℕ cfg0 c where
  A w := (mem₀ m ρ).mem ((cfg0.win w).arr.view.loc (c : Thread nD τ))
  after w _ := match w with
    | ⟨0, _⟩ => xIn m c
    | ⟨1, _⟩ => rIn m c
    | ⟨2, _⟩ => iIn m c
    | ⟨3, _⟩ => eIn m c
    | ⟨4, _⟩ => sIn m c
    | ⟨5, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

abbrev pt : Fin cfg0.N := t0_0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 pt.castSucc
    ∗ (∃ d, stg c cc0_stg0_0 ((dats m ρ 0 c).before (0 : Fin 6) pt d)) ∗ (∃ d, stg c cc0_stg1_0 ((dats m ρ 0 c).before (1 : Fin 6) pt d))
    ∗ (∃ d, stg c cc0_stg2_0 ((dats m ρ 0 c).before (2 : Fin 6) pt d)) ∗ (∃ d, stg c cc0_stg3_0 ((dats m ρ 0 c).before (3 : Fin 6) pt d))
    ∗ (∃ d, stg c cc0_stg4_0 ((dats m ρ 0 c).before (4 : Fin 6) pt d)) ∗ (∃ d, stg c cc0_stg5_0 ((dats m ρ 0 c).before (5 : Fin 6) pt d)))

def bodyPost (c : Dev nD) : sProp 𝕄 :=
  iprop(Φ₁ c ∗ (dats m ρ 0 c).owesAt 0 pt.succ
    ∗ stg c cc0_stg0_0 (xIn m c) ∗ stg c cc0_stg1_0 (rIn m c) ∗ stg c cc0_stg2_0 (iIn m c) ∗ stg c cc0_stg3_0 (eIn m c) ∗ stg c cc0_stg4_0 (sIn m c)
    ∗ stg c cc0_stg5_0 (out m c))

/-- Each input's staging buffer holds the device's block. -/
theorem staged_x (c : Dev nD) (d) : (dats m ρ 0 c).before (0 : Fin 6) pt d = xIn m c := by unfold Dat.before; rw [if_pos (fetch0_0 pt)]; rfl
theorem staged_r (c : Dev nD) (d) : (dats m ρ 0 c).before (1 : Fin 6) pt d = rIn m c := by unfold Dat.before; rw [if_pos (fetch0_1 pt)]; rfl
theorem staged_i (c : Dev nD) (d) : (dats m ρ 0 c).before (2 : Fin 6) pt d = iIn m c := by unfold Dat.before; rw [if_pos (fetch0_2 pt)]; rfl
theorem staged_e (c : Dev nD) (d) : (dats m ρ 0 c).before (3 : Fin 6) pt d = eIn m c := by unfold Dat.before; rw [if_pos (fetch0_3 pt)]; rfl
theorem staged_s (c : Dev nD) (d) : (dats m ρ 0 c).before (4 : Fin 6) pt d = sIn m c := by unfold Dat.before; rw [if_pos (fetch0_4 pt)]; rfl

theorem done_eq (c : Dev nD) : dues c (st 8 7 7 6) = 0 := by
  unfold dues st
  rw [due_done true c (show hops true ≤ _ from le_refl 8) (show hops true - 1 ≤ _ from le_refl 7),
    due_done false c (show hops false ≤ _ from le_refl 7) (show hops false - 1 ≤ _ from le_refl 6), add_zero]

theorem body_run (c : Dev nD) : bodyPre m ρ c ⊢ wp frame (wpE (defs₀ (F := F)) 𝒱₀ (c : Thread nD τ) none) Set.univ body (fun _ => bodyPost m ρ c) := by
  unfold bodyPre Φ₀ start scratchIn
  simp only [staged_x, staged_r, staged_i, staged_e, staged_s]
  unfold Dat.owesAt Pipeline.owesWithin
  rw [show (dats m ρ 0 c).owed pt.castSucc = O₀ c from rfl]
  iintro ⟨⟨⟨⟨%K, #HS⟩, HM, HR, HL⟩, ⟨⟨%fx, Hxs⟩, ⟨%fs, Hsw⟩⟩, ⟨%fr, Hr0, Hr1⟩, ⟨%fl, Hl0, Hl1⟩⟩, ⟨%W, %hW, HO⟩,
    ⟨%d0, %g0, %h0, Hx⟩, ⟨%d1, %g1, %h1, Hr⟩, ⟨%d2, %g2, %h2, Hi⟩, ⟨%d3, %g3, %h3, He⟩, ⟨%d4, %g4, %h4, Hs⟩, ⟨%d5, %g5, %h5, Ho⟩⟩
  subst h0 h1 h2 h3 h4
  iapply (sound_core (eIn m) K c (xIn m c) (rIn m c) (iIn m c) (sIn m c) g5 fx fs fr fr fl fl W (fun _ => bodyPost m ρ c))
  isplitr; · iexact HS
  isplitl [HM]; · iexact HM
  isplitl [HR]; · iexact HR
  isplitl [HL]; · iexact HL
  isplitl [HO]; · iexact HO
  isplitl [Hx Hr Hi He Hs Ho]
  · unfold Staged xPts rPts iPts ePts sPts oPts
    isplitl [Hx]; · iexact Hx
    isplitl [Hr]; · iexact Hr
    isplitl [Hi]; · iexact Hi
    isplitl [He]; · iexact He
    isplitl [Hs]; · iexact Hs
    iexact Ho
  isplitl [Hxs Hsw]
  · isplitl [Hxs] <;> iassumption
  isplitl [Hr0 Hr1]
  · isplitl [Hr0] <;> iassumption
  isplitl [Hl0 Hl1]
  · isplitl [Hl0] <;> iassumption
  unfold Ow Staged xPts rPts iPts ePts sPts oPts bodyPost Φ₁ scratchOut Dat.owesAt Pipeline.owesWithin
  rw [done_eq, show (dats m ρ 0 c).owed pt.succ = 0 from rfl]
  iintro ⟨HZ, ⟨%W', HO⟩, ⟨Hx, Hr, Hi, He, Hs, Ho⟩, ⟨Hxs, Hsw⟩, HSl⟩
  isplitl [HZ Hxs Hsw HSl]
  · isplitl [HZ]; · iexact HZ
    isplitl [Hxs Hsw]
    · isplitl [Hxs]; · iexists _; iexact Hxs
      iexists _; iexact Hsw
    iexact HSl
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  isplitl [Hs]
  · iexists _; isplitr; · (ipureintro; rfl)
    iexact Hs
  iexists _; isplitr; · (ipureintro; rfl)
  iexact Ho

/-- The library's body obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  exact body_run m ρ c

/-! ## Entry and exit -/

/-- The kernel's own semaphores. -/
def ownKind : Fin 10 → Kind
  | 0 => .send true 0 | 1 => .send true 1 | 2 => .recv true 0 | 3 => .recv true 1 | 4 => .free true
  | 5 => .send false 0 | 6 => .send false 1 | 7 => .recv false 0 | 8 => .recv false 1 | 9 => .free false
abbrev osem (i : Fin 10) : SemLoc sig := semOf (ownKind i)

theorem ownSemFacts : Pipeline.OwnSemFacts cfg0.spec osem := by decide

omit [FloatOps F] in
/-- With the barrier's, they are all the semaphores of the exchange. -/
theorem zeros_eq (c : Dev nD) : (iprop(Pipeline.ownSems0 (Ix := ℕ) (Name := ℕ) (U := UU) (Lvl := ℕ) (Val := Elt F) (τ := τ) osem c ∗ unscopedSems0 c) : sProp 𝕄) ⊣⊢ Zeros c := by
  have hu : (unscopedSems0 c : sProp 𝕄) = semVal (cell .bar c) 0 := by
    unfold unscopedSems0; rw [bigSep_eq_bigSepL_of_eq [SemLoc.reg (2 : Fin 3)] (by decide) (by decide)]; rfl
  have hz : (Zeros c : sProp 𝕄) = _ := bigSep_univ_eq_bigSepL Kind.all rfl (by decide) _
  rw [hu, hz, Pipeline.ownSems0_eq_of_list c osem [0, 1, 2, 3, 4, 5, 6, 7, 8, 9] (by decide) (by decide)]
  exact ⟨BI.sep_comm, BI.sep_comm⟩

omit [FloatOps F] in
theorem glob : (bigSep Finset.univ fun c => iprop(Pipeline.ownSems0 (Ix := ℕ) (Name := ℕ) (U := UU) (Lvl := ℕ) (Val := Elt F) (τ := τ) osem c ∗ unscopedSems0 c ∗ G (eIn m) c) : sProp 𝕄)
    ⊢ |={Set.univ}=> bigSep Finset.univ (G' (eIn m)) := by
  have h (c : Dev nD) : (iprop(Pipeline.ownSems0 (Ix := ℕ) (Name := ℕ) (U := UU) (Lvl := ℕ) (Val := Elt F) (τ := τ) osem c ∗ unscopedSems0 c ∗ G (eIn m) c) : sProp 𝕄)
      ⊢ iprop(Zeros c ∗ G (eIn m) c) := by
    iintro ⟨H1, H2, H3⟩
    isplitl [H1 H2]
    · iapply (zeros_eq (F := F) c).1
      isplitl [H1] <;> iassumption
    iexact H3
  exact ((bigSep_mono fun c _ => BIBase.Entails.trans (h c) (core_alloc (eIn m) c)).trans (bigSep_fupd _ _)).trans (BI.fupd_mono (regroup (eIn m)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (eIn m) c)
      ⊢ |={Set.univ}=> iprop(start m c ∗ emp) := by
  unfold G' start
  iintro ⟨-, #Hlev, Hcr, -, ⟨%K, #HI, Hl⟩⟩
  ihave Hc := (creds (F := F) c) $$ Hcr
  imodintro
  isplitl
  · isplitr
    · iexists K; unfold Shared Invs
      isplitl; · iexact HI
      iexact Hlev
    iapply (seeds (F := F) c)
    isplitl [Hl]; · iexact Hl
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratchIn xsPts swPts
  iintro ⟨Hs, -, H0, H1, ⟨%f, H2⟩, ⟨%g, H3⟩⟩
  isplitl [Hs]; · iexact Hs
  isplitl [H0 H1]
  · isplitl [H0] <;> iassumption
  isplitl [H2]
  · iexists f; iapply (slots_split (F := F) true c f); iexact H2
  iexists g; iapply (slots_split (F := F) false c g); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratchOut xsPts swPts
  iintro ⟨HZ, ⟨H0, H1⟩, HS⟩
  ihave HZ := (zeros_eq (F := F) c).2 $$ HZ
  icases HZ with ⟨HO, HU⟩
  ihave HS := (slots_join (F := F) c) $$ HS
  icases HS with ⟨H2, H3⟩
  isplitl [HU]; · iexact HU
  isplitl [HO]; · iexact HO
  isplitl [H0]; · iexact H0
  isplitl [H1]; · iexact H1
  isplitl [H2] <;> iassumption

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def u₀ : UU := (initOf (Pipeline.cells cfgs cellOf_inj) (Pipeline.launchToks cfgs cellOf_inj), initOf ringCells ringToks)

/-- The arrays when the run ends. -/
def finalA (c : Dev nD) (w : Fin cfg0.W) : Buf (Elt F) ((cfg0.win w).arr.view.loc (c : Thread nD τ)) := (dats m ρ 0 c).arrAt w cfg0.N

/-- From any memory with zero counters, for any float values: every fair execution of the sixteen devices terminates, with each device's arrays
    at the computed contents and every semaphore counter at zero. -/
theorem run_main : θ_run defs (onTc (τ := τ) (main (F := F))) (mem₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (eIn m)) (G' := G' (eIn m)) (u₀ := u₀)
    (hu₀ := by
      unfold u₀
      iintro Hu
      ihave H := (ownU_pair _ _) $$ Hu
      icases H with ⟨HP, HX⟩
      imod (fund_ring (eIn m)) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are unchanged, -/
theorem finalA_in (c : Dev nD) (w : Fin cfg0.W) (hw : (cfg0.win w).isOut = false) :
    finalA m ρ c w = m ((cfg0.win w).arr.view.loc (c : Thread nD τ)) := (dats (F := F) m ρ 0 c).arrAt_in w hw _

end Cert.KernelIdeal.Ring

end
-- ==== Proof.Frames.lean ====
/-
The runs as the claims state them: each device's result as computed, its arguments unchanged, every counter at zero — for the
kernel's two readings, one program text at two float types.
-/
module

public import proofs.«01_k».proof.Proof.Run
public import proofs.«01_k».proof.Proof.Gen.Kernel

@[expose] public section

set_option maxRecDepth 65536

noncomputable section

namespace Cert.KernelIdeal.Ring

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The result array after the run is the staged result. -/
theorem finalA_out (c : Dev nD) : finalA m ρ c (5 : Fin 6) = out m c := by
  have h : (dats m ρ 0 c).arrAt (5 : Fin 6) (t0_0.val + 1) = _ := (dats m ρ 0 c).arrAt_succ (5 : Fin 6) t0_0
  rw [if_pos (flush0_5 t0_0)] at h
  exact h.trans (Memref.write_access_unit_zero_univ (Elt F) main_v1 (funext fun a => by fin_cases a <;> rfl) _ _ _)

/-- The run, its arrays by name. -/
theorem run_named : θ_run defs (onTc (τ := τ) (main (F := F))) ⟨m, fun _ => 0, ρ⟩ (fun r => (∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 5).trans (finalA_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl),
    (h.1 c 4).trans (finalA_in m ρ c 4 rfl)⟩, h.2⟩) (run_main m ρ)

/-- The arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_named m ρ)

end Cert.KernelIdeal.Ring

namespace Cert.Kernel.Ring

open Cert.Kernel Cert.Kernel.Gen
open Idealize.ShloMosaic
open Idealize.SL.Sem

variable {F : FTy → Type} [FloatOps F]

/-- The kernel as printed and its ideal reading are one program text: the same body, -/
theorem defs₀_eq : Cert.Kernel.defs₀ (F := F) = Cert.KernelIdeal.defs₀ (F := F) := by
  refine congrArg Defs.onTc (funext fun ℓ => funext fun x => ?_)
  match ℓ, x with
  | 0, (t, s) => rfl
/-- the same table of bodies, -/
theorem defs_eq : Cert.Kernel.defs (F := F) = Cert.KernelIdeal.defs (F := F) := by
  show Pipeline.defs _ (Cert.Kernel.defs₀ (F := F)) = Pipeline.defs _ (Cert.KernelIdeal.defs₀ (F := F))
  rw [defs₀_eq]

/-- and so the same run. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  defs_eq (F := F) ▸ Cert.KernelIdeal.Ring.run_frame (F := F) m ρ

end Cert.Kernel.Ring

end
-- ==== Proof.Value.lean ====
/-
The value claim: where the rows and the router are finite, each device's result is its block of the reference's result.
-/
module

public import proofs.«01_k».proof.Proof.Agree
public import proofs.«01_k».proof.Proof.Frames
public import proofs.«01_k».proof.Pre_finite_KernelIdeal
public import proofs.«01_k».proof.Pre_finite_ReferenceIdeal
public import Idealize.ShloMosaic.Lib.Layout

@[expose] public section

set_option maxRecDepth 16384

noncomputable section

/-! ## The precondition -/

/-- The shapes in which the precondition spreads infinity. -/
theorem Cert.Pre_finite_KernelIdeal.facts : Cert.Pre_finite_KernelIdeal.Facts := ⟨by decide, by decide, by decide⟩
theorem Cert.Pre_finite_ReferenceIdeal.facts : Cert.Pre_finite_ReferenceIdeal.Facts := ⟨by decide, by decide, by decide⟩

namespace Cert.KernelIdeal.Ring

open Cert.KernelIdeal Cert.KernelIdeal.Gen
open Idealize.ShloMosaic
open Idealize.ShloMosaic.TcCoe
open Idealize.SL.Sem

/-- The single-precision word of infinity. -/
theorem posInf : Ideal.ofBits .f32 0x7F800000#32 = ⊤ := by simp [Ideal.ofBits, Ideal.ieee]

/-- A number below infinity in absolute value is real. -/
theorem real_of_test (a : EReal) (h : Ideal.cmp .olt (max a (-a)) (Ideal.ofBits .f32 0x7F800000#32) = 1#1) : Moe.IsReal a := by
  rw [posInf] at h
  refine Moe.isReal_of_abs_lt ?_
  by_contra hn
  have hc : Ideal.cmp .olt (max a (-a)) ⊤ = BitVec.ofBool (decide (max a (-a) < ⊤)) := rfl
  rw [hc, decide_eq_false hn] at h
  exact absurd h (by decide)

section
attribute [local instance] Cert.Pre_finite_KernelIdeal.facts

/-- Under the precondition the rows are real, -/
theorem rows_real (x : FVec Ideal S2048x512 .bf16) (r : FVec Ideal S512x64 .bf16) (i : IVec S2048x1 32) (e : FVec Ideal S4x512x1024 .bf16)
    (s : FVec Ideal S512x1024 .bf16) (h : (Cert.Pre_finite_KernelIdeal.fn (F := Ideal) x r i e s).1 = fun _ => 1#1) (a : Fin 2048) (k : Fin 512) :
    Moe.IsReal (x (ix2 a k)) := real_of_test _ (congrFun h (ix2 a k))
/-- and so is the router. -/
theorem router_real (x : FVec Ideal S2048x512 .bf16) (r : FVec Ideal S512x64 .bf16) (i : IVec S2048x1 32) (e : FVec Ideal S4x512x1024 .bf16)
    (s : FVec Ideal S512x1024 .bf16) (h : (Cert.Pre_finite_KernelIdeal.fn (F := Ideal) x r i e s).2 = fun _ => 1#1) (a : Fin 512) (k : Fin 64) :
    Moe.IsReal (r (ix2 a k)) := real_of_test _ (congrFun h (ix2 a k))
end

/-! ## The staged arrays -/

variable {F : FTy → Type} [FloatOps F] (m : (ℓ : Loc nD τ sig) → Buf (Elt F) ℓ) (c : Dev nD)

/-- The one block of each window is the whole array. -/
theorem xIn_eq : xIn m c = m ((c : Thread nD τ).loc main_arg0) := Memref.read_access_unit_zero (Elt F) main_arg0 (funext fun a => by fin_cases a <;> rfl) _ _
theorem rIn_eq : rIn m c = m ((c : Thread nD τ).loc main_arg1) := Memref.read_access_unit_zero (Elt F) main_arg1 (funext fun a => by fin_cases a <;> rfl) _ _
theorem iIn_eq : iIn m c = m ((c : Thread nD τ).loc main_arg2) := Memref.read_access_unit_zero (Elt F) main_arg2 (funext fun a => by fin_cases a <;> rfl) _ _
theorem eIn_eq : eIn m c = m ((c : Thread nD τ).loc main_arg3) := Memref.read_access_unit_zero (Elt F) main_arg3 (funext fun a => by fin_cases a <;> rfl) _ _
theorem sIn_eq : sIn m c = m ((c : Thread nD τ).loc main_arg4) := Memref.read_access_unit_zero (Elt F) main_arg4 (funext fun a => by fin_cases a <;> rfl) _ _

/-! ## The blocks -/

/-- Row `i` of block `c` is row `rowOf c i` of the whole. -/
theorem block_rows {α : Type} {n : ℕ} (v : (⟨2, ![32768, n]⟩ : Shape).Idx → α) (h) (i : Fin 2048) (k : Fin n) :
    Layout.block ⟨2, ![2048, n]⟩ ⟨2, ![32768, n]⟩ 0 16 c v h (ix2 i k) = v (ix2 (rowOf c i) k) := by
  rw [Layout.block_apply]
  refine congrArg v (funext fun a => ?_)
  match a with
  | ⟨0, _⟩ => rfl
  | ⟨1, _⟩ => rfl

/-- Expert `k` of block `d` is expert `4 d + k` of the whole. -/
theorem block_experts {α : Type} (d : Dev nD) (v : (⟨3, ![64, 512, 1024]⟩ : Shape).Idx → α) (h) (k : Fin 4) (a : Fin 512) (f : Fin 1024) :
    Layout.block ⟨3, ![4, 512, 1024]⟩ ⟨3, ![64, 512, 1024]⟩ 0 16 d v h (ix3 k a f) = v (ix3 (Moe.expert d k) a f) := by
  rw [Layout.block_apply]
  refine congrArg v (funext fun b => ?_)
  match b with
  | ⟨0, _⟩ => exact Fin.ext (by show d.val * 4 + k.val = 4 * d.val + k.val; rw [Nat.mul_comm])
  | ⟨1, _⟩ => rfl
  | ⟨2, _⟩ => rfl

/-! ## The claim -/

section
attribute [local instance] Cert.Pre_finite_KernelIdeal.facts

/-- Where the rows and the router are finite and each device's arrays are its blocks of the reference's, device `c`'s result is
its block of the reference's result. -/
theorem out_block (m : (ℓ : Loc nD τ sig) → Buf (Elt Ideal) ℓ) (c : Dev nD)
    (x : Vec Ideal Cert.ReferenceIdeal.S32768x512 .bf16) (r : Vec Ideal Cert.ReferenceIdeal.S512x64 .bf16)
    (e : Vec Ideal Cert.ReferenceIdeal.S32768x1 .i32) (w : Vec Ideal Cert.ReferenceIdeal.S64x512x1024 .bf16)
    (s : Vec Ideal Cert.ReferenceIdeal.S512x1024 .bf16)
    (hp : (Cert.Pre_finite_KernelIdeal.fn (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))).1 = (fun _ => 1#1)
      ∧ (Cert.Pre_finite_KernelIdeal.fn (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))).2 = (fun _ => 1#1))
    (h : ∀ c : Dev nD, m ((c.tc : Thread nD τ).loc main_arg0) = Layout.block ⟨2, ![2048, 512]⟩ ⟨2, ![32768, 512]⟩ 0 16 c x
      ∧ m ((c.tc : Thread nD τ).loc main_arg1) = r
      ∧ m ((c.tc : Thread nD τ).loc main_arg2) = Layout.block ⟨2, ![2048, 1]⟩ ⟨2, ![32768, 1]⟩ 0 16 c e
      ∧ m ((c.tc : Thread nD τ).loc main_arg3) = Layout.block ⟨3, ![4, 512, 1024]⟩ ⟨3, ![64, 512, 1024]⟩ 0 16 c w
      ∧ m ((c.tc : Thread nD τ).loc main_arg4) = s) :
    out m c = Layout.block ⟨2, ![2048, 1024]⟩ ⟨2, ![32768, 1024]⟩ 0 16 c (Cert.ReferenceIdeal.Mix.result x r e w s) := by
  funext i
  obtain ⟨a, b, rfl⟩ : ∃ (a : Fin 2048) (b : Fin 1024), i = ix2 a b := ⟨_, _, eq_ix2 (n0 := 2048) (n1 := 1024) i⟩
  refine Eq.trans ?_ (block_rows c (Cert.ReferenceIdeal.Mix.result x r e w s) _ a b).symm
  unfold out
  refine agree (xIn m c) (rIn m c) (iIn m c) (sIn m c) (eIn m) c x r e w s ?_ ?_ ?_ ?_ ?_ ?_ ?_ _ _
  · intro i k; rw [xIn_eq]; exact (congrFun (h c).1 _).trans (block_rows c x _ i k)
  · intro k a; rw [rIn_eq]; exact congrFun (h c).2.1 _
  · intro i; rw [iIn_eq]; exact (congrFun (h c).2.2.1 _).trans (block_rows c e _ i 0)
  · intro d k a f; rw [eIn_eq]; exact (congrFun (h d).2.2.2.1 _).trans (block_experts d w _ k a f)
  · intro k f; rw [sIn_eq]; exact congrFun (h c).2.2.2.2 _
  · intro i k; rw [xIn_eq]; exact rows_real _ _ _ _ _ hp.1 i k
  · intro k a; rw [rIn_eq]; exact router_real _ _ _ _ _ hp.2 k a
end

end Cert.KernelIdeal.Ring

end
-- ==== Proof.lean ====
/-
The proof of `Cert.Claim`: the frames of the kernel, of its ideal reading and of the reference, and the value claim — where
the rows and the router are finite, the kernel on sixteen devices computes the reference's result, each device its block.
-/
module

public import proofs.«01_k».proof.Defs
public import proofs.«01_k».proof.Proof.Value
public import Idealize.ShloMosaic.Adequacy
public import Idealize.ShloMosaic.Init

@[expose] public section

noncomputable section

namespace Cert.Proof

open Idealize.ShloMosaic Idealize.SL.Sem

/-- The reference is host operations on one device: its arguments end unchanged, and it has no semaphore to leave set. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun _ h => ⟨fun c => (h c).2, funext fun s => by
    obtain ⟨_, s | s⟩ := s <;> exact s.elim0⟩) (Cert.ReferenceIdeal.Value.run m g)

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  fun m g _ => Cert.Kernel.Ring.run_frame m g,
  fun m g _ => Cert.KernelIdeal.Ring.run_frame m g,
  fun m g _ => Cert.KernelIdeal.Ring.run_frame m g,
  fun m g _ => reference_frame m g,
  fun m g _ => reference_frame m g,
  trivial,
  fun m g m' g' hpre hargs =>
    ⟨Cert.ReferenceIdeal.Mix.result
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4)),
      (θ_run _ _ _).mono (fun _ h c => ⟨(h.1 c).1.trans (Cert.KernelIdeal.Ring.out_block m c _ _ _ _ _ (hpre c) hargs), (h.1 c).2⟩)
        (Cert.KernelIdeal.Ring.run_named m g),
      (θ_run _ _ _).mono (fun _ h => h 0) (Cert.ReferenceIdeal.Mix.run m' g')⟩⟩

end Cert.Proof

end
